-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v2_3)) (v3 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v2_3) = v2 c
          ∧ r.2.mem ((c.tc : Thread Cert.KernelIdeal.nD Cert.KernelIdeal.τ).loc Cert.KernelIdeal.main_v2_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x768 : Shape := ⟨3, ![2, 128, 768]⟩
abbrev S480000x24 : Shape := ⟨2, ![480000, 24]⟩
abbrev S256x768 : Shape := ⟨2, ![256, 768]⟩
abbrev S24x480000 : Shape := ⟨2, ![24, 480000]⟩
abbrev S32x118x8x128 : Shape := ⟨4, ![32, 118, 8, 128]⟩
abbrev S256x128 : Shape := ⟨2, ![256, 128]⟩
abbrev S256x24 : Shape := ⟨2, ![256, 24]⟩
abbrev S24x4096 : Shape := ⟨2, ![24, 4096]⟩
abbrev S32x1x8x128 : Shape := ⟨4, ![32, 1, 8, 128]⟩
abbrev S768x512 : Shape := ⟨2, ![768, 512]⟩
abbrev S15x256x128 : Shape := ⟨3, ![15, 256, 128]⟩
abbrev S256 : Shape := ⟨1, ![256]⟩
abbrev S256x1 : Shape := ⟨2, ![256, 1]⟩
abbrev S768x128 : Shape := ⟨2, ![768, 128]⟩
abbrev S1x768 : Shape := ⟨2, ![1, 768]⟩
abbrev S768x768 : Shape := ⟨2, ![768, 768]⟩
abbrev S8x512 : Shape := ⟨2, ![8, 512]⟩
abbrev S16x512 : Shape := ⟨2, ![16, 512]⟩
abbrev S256x512 : Shape := ⟨2, ![256, 512]⟩
abbrev S1x256x128 : Shape := ⟨3, ![1, 256, 128]⟩

abbrev nBuf : Space → Nat
  | .hbm => 9
  | .vmem => 17
  | .smem => 0
  | _ => 0

abbrev bufTy : (tb : Table) → Fin (tcTables nBuf tb) → BufTy
  | .hbm, ⟨0, _⟩ => ⟨S2x128x768, .bf16⟩
  | .hbm, ⟨1, _⟩ => ⟨S480000x24, .i32⟩
  | .hbm, ⟨2, _⟩ => ⟨S256x768, .bf16⟩
  | .hbm, ⟨3, _⟩ => ⟨S24x480000, .i32⟩
  | .hbm, ⟨4, _⟩ => ⟨S32x118x8x128, .i32⟩
  | .hbm, ⟨5, _⟩ => ⟨S256x128, .i32⟩
  | .hbm, ⟨6, _⟩ => ⟨S256x128, .i32⟩
  | .hbm, ⟨7, _⟩ => ⟨S256x24, .i32⟩
  | .hbm, ⟨8, _⟩ => ⟨S256x768, .f32⟩
  | .local _ .vmem, ⟨0, _⟩ => ⟨S256x768, .bf16⟩
  | .local _ .vmem, ⟨1, _⟩ => ⟨S24x4096, .i32⟩
  | .local _ .vmem, ⟨2, _⟩ => ⟨S24x4096, .i32⟩
  | .local _ .vmem, ⟨3, _⟩ => ⟨S32x1x8x128, .i32⟩
  | .local _ .vmem, ⟨4, _⟩ => ⟨S32x1x8x128, .i32⟩
  | .local _ .vmem, ⟨5, _⟩ => ⟨S256x128, .i32⟩
  | .local _ .vmem, ⟨6, _⟩ => ⟨S256x128, .i32⟩
  | .local _ .vmem, ⟨7, _⟩ => ⟨S256x24, .i32⟩
  | .local _ .vmem, ⟨8, _⟩ => ⟨S256x768, .f32⟩
  | .local _ .vmem, ⟨9, _⟩ => ⟨S256x768, .bf16⟩
  | .local _ .vmem, ⟨10, _⟩ => ⟨S768x512, .bf16⟩
  | .local _ .vmem, ⟨11, _⟩ => ⟨S768x512, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S15x256x128, .f32⟩
  | _, _ => ⟨S2x128x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![118], ![false]⟩

def k0_cond2 (i : grid0.Coords) : BitVec 1 :=
  let arg0 : BitVec 32 := BitVec.ofNat 32 (i 0).val
  let c8_i32_1624 : BitVec 32 := 8#32
  let c0_i32_1625 : BitVec 32 := 0#32
  let v3225 : BitVec 1 := Scalar.cmpi .eq c8_i32_1624 c0_i32_1625
  let c1_i32_1626 : BitVec 32 := 1#32
  let v3226 : BitVec 32 := Scalar.select v3225 c1_i32_1626 c8_i32_1624
  let v3227 : BitVec 32 := Scalar.remsi arg0 v3226
  let c0_i32_1628 : BitVec 32 := 0#32
  let v3229 : BitVec 1 := Scalar.cmpi .slt v3227 c0_i32_1628
  let c0_i32_1629 : BitVec 32 := 0#32
  let v3230 : BitVec 1 := Scalar.cmpi .slt v3226 c0_i32_1629
  let v3231 : BitVec 1 := Scalar.xori v3229 v3230
  let c0_i32_1627 : BitVec 32 := 0#32
  let v3228 : BitVec 1 := Scalar.cmpi .ne v3227 c0_i32_1627
  let v3232 : BitVec 1 := Scalar.andi v3231 v3228
  let v3233 : BitVec 32 := Scalar.addi v3227 v3226
  let v3234 : BitVec 32 := Scalar.select v3232 v3233 v3227
  let c0_i32_1630 : BitVec 32 := 0#32
  let v3235 : BitVec 1 := Scalar.cmpi .eq v3234 c0_i32_1630
  let v3236 : BitVec 32 := Scalar.extui v3235
  let c0_i32_1631 : BitVec 32 := 0#32
  let v3237 : BitVec 1 := Scalar.cmpi .ne v3236 c0_i32_1631
  v3237

def k0_off1 (i : grid0.Coords) : Fin 3 → Nat :=
  let arg0 : BitVec 32 := BitVec.ofNat 32 (i 0).val
  let c0_i32_1618 : BitVec 32 := 0#32
  let v3209 : BitVec 1 := Scalar.cmpi .sgt arg0 c0_i32_1618
  let v3210 : BitVec 32 := Scalar.extui v3209
  let c0_i32_1619 : BitVec 32 := 0#32
  let v3211 : BitVec 1 := Scalar.cmpi .slt arg0 c0_i32_1619
  let v3212 : BitVec 32 := Scalar.extui v3211
  let v3213 : BitVec 32 := Scalar.subi v3210 v3212
  let c8_i32_1617 : BitVec 32 := 8#32
  let c0_i32_1620 : BitVec 32 := 0#32
  let v3214 : BitVec 1 := Scalar.cmpi .sgt c8_i32_1617 c0_i32_1620
  let v3215 : BitVec 32 := Scalar.extui v3214
  let c0_i32_1621 : BitVec 32 := 0#32
  let v3216 : BitVec 1 := Scalar.cmpi .slt c8_i32_1617 c0_i32_1621
  let v3217 : BitVec 32 := Scalar.extui v3216
  let v3218 : BitVec 32 := Scalar.subi v3215 v3217
  let v3219 : BitVec 1 := Scalar.cmpi .ne v3213 v3218
  let v3220 : BitVec 32 := Scalar.remsi arg0 c8_i32_1617
  let c0_i32_1622 : BitVec 32 := 0#32
  let v3221 : BitVec 1 := Scalar.cmpi .ne v3220 c0_i32_1622
  let v3222 : BitVec 1 := Scalar.andi v3219 v3221
  let v3208 : BitVec 32 := Scalar.divsi arg0 c8_i32_1617
  let c1_i32_1623 : BitVec 32 := 1#32
  let v3223 : BitVec 32 := Scalar.subi v3208 c1_i32_1623
  let v3224 : BitVec 32 := Scalar.select v3222 v3223 v3208
  let v3254 : Index := Scalar.indexCast v3224
  let c0_1641 : Index := 0#32
  let c0_1642 : Index := 0#32
  ![v3254.toNat, 0, 0]
def k0_cond3 (i : grid0.Coords) : BitVec 1 :=
  let arg0 : BitVec 32 := BitVec.ofNat 32 (i 0).val
  let c8_i32_1632 : BitVec 32 := 8#32
  let c0_i32_1633 : BitVec 32 := 0#32
  let v3238 : BitVec 1 := Scalar.cmpi .eq c8_i32_1632 c0_i32_1633
  let c1_i32_1634 : BitVec 32 := 1#32
  let v3239 : BitVec 32 := Scalar.select v3238 c1_i32_1634 c8_i32_1632
  let v3240 : BitVec 32 := Scalar.remsi arg0 v3239
  let c0_i32_1636 : BitVec 32 := 0#32
  let v3242 : BitVec 1 := Scalar.cmpi .slt v3240 c0_i32_1636
  let c0_i32_1637 : BitVec 32 := 0#32
  let v3243 : BitVec 1 := Scalar.cmpi .slt v3239 c0_i32_1637
  let v3244 : BitVec 1 := Scalar.xori v3242 v3243
  let c0_i32_1635 : BitVec 32 := 0#32
  let v3241 : BitVec 1 := Scalar.cmpi .ne v3240 c0_i32_1635
  let v3245 : BitVec 1 := Scalar.andi v3244 v3241
  let v3246 : BitVec 32 := Scalar.addi v3240 v3239
  let v3247 : BitVec 32 := Scalar.select v3245 v3246 v3240
  let c0_i32_1638 : BitVec 32 := 0#32
  let v3248 : BitVec 1 := Scalar.cmpi .ne v3247 c0_i32_1638
  let v3249 : BitVec 32 := Scalar.extui v3248
  let c0_i32_1639 : BitVec 32 := 0#32
  let v3250 : BitVec 1 := Scalar.cmpi .ne v3249 c0_i32_1639
  v3250

def k0_off2 (i : grid0.Coords) : Fin 3 → Nat :=
  let arg0 : BitVec 32 := BitVec.ofNat 32 (i 0).val
  let c0_i32_1618 : BitVec 32 := 0#32
  let v3209 : BitVec 1 := Scalar.cmpi .sgt arg0 c0_i32_1618
  let v3210 : BitVec 32 := Scalar.extui v3209
  let c0_i32_1619 : BitVec 32 := 0#32
  let v3211 : BitVec 1 := Scalar.cmpi .slt arg0 c0_i32_1619
  let v3212 : BitVec 32 := Scalar.extui v3211
  let v3213 : BitVec 32 := Scalar.subi v3210 v3212
  let c8_i32_1617 : BitVec 32 := 8#32
  let c0_i32_1620 : BitVec 32 := 0#32
  let v3214 : BitVec 1 := Scalar.cmpi .sgt c8_i32_1617 c0_i32_1620
  let v3215 : BitVec 32 := Scalar.extui v3214
  let c0_i32_1621 : BitVec 32 := 0#32
  let v3216 : BitVec 1 := Scalar.cmpi .slt c8_i32_1617 c0_i32_1621
  let v3217 : BitVec 32 := Scalar.extui v3216
  let v3218 : BitVec 32 := Scalar.subi v3215 v3217
  let v3219 : BitVec 1 := Scalar.cmpi .ne v3213 v3218
  let v3220 : BitVec 32 := Scalar.remsi arg0 c8_i32_1617
  let c0_i32_1622 : BitVec 32 := 0#32
  let v3221 : BitVec 1 := Scalar.cmpi .ne v3220 c0_i32_1622
  let v3222 : BitVec 1 := Scalar.andi v3219 v3221
  let v3208 : BitVec 32 := Scalar.divsi arg0 c8_i32_1617
  let c1_i32_1623 : BitVec 32 := 1#32
  let v3223 : BitVec 32 := Scalar.subi v3208 c1_i32_1623
  let v3224 : BitVec 32 := Scalar.select v3222 v3223 v3208
  let v3254 : Index := Scalar.indexCast v3224
  let c0_1641 : Index := 0#32
  let c0_1642 : Index := 0#32
  ![v3254.toNat, 0, 0]
def k0_cond4 (i : grid0.Coords) : BitVec 1 :=
  let arg0 : BitVec 32 := BitVec.ofNat 32 (i 0).val
  let c117_i32 : BitVec 32 := 117#32
  let v3251 : BitVec 1 := Scalar.cmpi .eq arg0 c117_i32
  let v3252 : BitVec 32 := Scalar.extui v3251
  let c0_i32_1640 : BitVec 32 := 0#32
  let v3253 : BitVec 1 := Scalar.cmpi .ne v3252 c0_i32_1640
  v3253

@[reducible] def k0_t1_loop : Scf.Loop 32 :=
  let c0_i32_1643 : BitVec 32 := 0#32
  let c10_i32_1644 : BitVec 32 := 10#32
  let v3256 : BitVec 32 := Scalar.addi c0_i32_1643 c10_i32_1644
  let c1_i32_1645 : BitVec 32 := 1#32
  ⟨c0_i32_1643, v3256, c1_i32_1645⟩
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x24 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x128x768 : Shape := ⟨3, ![2, 128, 768]⟩
abbrev S480000x24 : Shape := ⟨2, ![480000, 24]⟩
abbrev S256x768 : Shape := ⟨2, ![256, 768]⟩
abbrev S_ : Shape := ⟨0, ![]⟩
abbrev S256x24x32 : Shape := ⟨3, ![256, 24, 32]⟩
abbrev S32 : Shape := ⟨1, ![32]⟩
abbrev S1x1x32 : Shape := ⟨3, ![1, 1, 32]⟩
abbrev S256x24 : Shape := ⟨2, ![256, 24]⟩
abbrev S256x1x24 : Shape := ⟨3, ![256, 1, 24]⟩
abbrev S1x480000x24 : Shape := ⟨3, ![1, 480000, 24]⟩
abbrev S256x480000x24 : Shape := ⟨3, ![256, 480000, 24]⟩
abbrev S256x480000 : Shape := ⟨2, ![256, 480000]⟩
abbrev S256x483328 : Shape := ⟨2, ![256, 483328]⟩
abbrev S256x118x32x128 : Shape := ⟨4, ![256, 118, 32, 128]⟩
abbrev S1x1x32x1 : Shape := ⟨4, ![1, 1, 32, 1]⟩
abbrev S256x118x128 : Shape := ⟨3, ![256, 118, 128]⟩
abbrev S256x118x1x128 : Shape := ⟨4, ![256, 118, 1, 128]⟩
abbrev S32x8x118x128 : Shape := ⟨4, ![32, 8, 118, 128]⟩
abbrev S32x118x8x128 : Shape := ⟨4, ![32, 118, 8, 128]⟩
abbrev S256x128 : Shape := ⟨2, ![256, 128]⟩

abbrev nBuf : Space → Nat
  | .hbm => 79
  | .vmem => 0
  | .smem => 0
  | _ => 0

abbrev bufTy : (tb : Table) → Fin (tcTables nBuf tb) → BufTy
  | .hbm, ⟨0, _⟩ => ⟨S2x128x768, .bf16⟩
  | .hbm, ⟨1, _⟩ => ⟨S480000x24, .i32⟩
  | .hbm, ⟨2, _⟩ => ⟨S256x768, .bf16⟩
  | .hbm, ⟨3, _⟩ => ⟨S_, .bf16⟩
  | .hbm, ⟨4, _⟩ => ⟨S256x768, .bf16⟩
  | .hbm, ⟨5, _⟩ => ⟨S256x768, .i1⟩
  | .hbm, ⟨6, _⟩ => ⟨S256x768, .i32⟩
  | .hbm, ⟨7, _⟩ => ⟨S256x24x32, .i32⟩
  | .hbm, ⟨8, _⟩ => ⟨S32, .i32⟩
  | .hbm, ⟨9, _⟩ => ⟨S1x1x32, .i32⟩
  | .hbm, ⟨10, _⟩ => ⟨S256x24x32, .i32⟩
  | .hbm, ⟨11, _⟩ => ⟨S256x24x32, .i32⟩
  | .hbm, ⟨12, _⟩ => ⟨S_, .i32⟩
  | .hbm, ⟨13, _⟩ => ⟨S256x24, .i32⟩
  | .hbm, ⟨14, _⟩ => ⟨S256x1x24, .i32⟩
  | .hbm, ⟨15, _⟩ => ⟨S1x480000x24, .i32⟩
  | .hbm, ⟨16, _⟩ => ⟨S256x480000x24, .i32⟩
  | .hbm, ⟨17, _⟩ => ⟨S256x480000x24, .i32⟩
  | .hbm, ⟨18, _⟩ => ⟨S256x480000x24, .i32⟩
  | .hbm, ⟨19, _⟩ => ⟨S256x480000x24, .i32⟩
  | .hbm, ⟨20, _⟩ => ⟨S_, .i32⟩
  | .hbm, ⟨21, _⟩ => ⟨S256x480000, .i32⟩
  | .hbm, ⟨22, _⟩ => ⟨S256x480000, .i32⟩
  | .hbm, ⟨23, _⟩ => ⟨S_, .i32⟩
  | .hbm, ⟨24, _⟩ => ⟨S_, .i32⟩
  | .hbm, ⟨25, _⟩ => ⟨S256x483328, .i32⟩
  | .hbm, ⟨26, _⟩ => ⟨S256x118x32x128, .i32⟩
  | .hbm, ⟨27, _⟩ => ⟨S_, .i32⟩
  | .hbm, ⟨28, _⟩ => ⟨S256x118x32x128, .i32⟩
  | .hbm, ⟨29, _⟩ => ⟨S256x118x32x128, .i32⟩
  | .hbm, ⟨30, _⟩ => ⟨S32, .i32⟩
  | .hbm, ⟨31, _⟩ => ⟨S1x1x32x1, .i32⟩
  | .hbm, ⟨32, _⟩ => ⟨S256x118x32x128, .i32⟩
  | .hbm, ⟨33, _⟩ => ⟨S256x118x32x128, .i32⟩
  | .hbm, ⟨34, _⟩ => ⟨S_, .i32⟩
  | .hbm, ⟨35, _⟩ => ⟨S256x118x128, .i32⟩
  | .hbm, ⟨36, _⟩ => ⟨S256x118x1x128, .i32⟩
  | .hbm, ⟨37, _⟩ => ⟨S256x118x32x128, .i32⟩
  | .hbm, ⟨38, _⟩ => ⟨S256x118x32x128, .i1⟩
  | .hbm, ⟨39, _⟩ => ⟨S_, .i32⟩
  | .hbm, ⟨40, _⟩ => ⟨S_, .i32⟩
  | .hbm, ⟨41, _⟩ => ⟨S256x118x32x128, .i32⟩
  | .hbm, ⟨42, _⟩ => ⟨S256x118x32x128, .i32⟩
  | .hbm, ⟨43, _⟩ => ⟨S_, .i32⟩
  | .hbm, ⟨44, _⟩ => ⟨S256x118x128, .i32⟩
  | .hbm, ⟨45, _⟩ => ⟨S256x118x1x128, .i32⟩
  | .hbm, ⟨46, _⟩ => ⟨S256x118x32x128, .i32⟩
  | .hbm, ⟨47, _⟩ => ⟨S256x118x32x128, .i1⟩
  | .hbm, ⟨48, _⟩ => ⟨S_, .i32⟩
  | .hbm, ⟨49, _⟩ => ⟨S_, .i32⟩
  | .hbm, ⟨50, _⟩ => ⟨S256x118x32x128, .i32⟩
  | .hbm, ⟨51, _⟩ => ⟨S256x118x32x128, .i32⟩
  | .hbm, ⟨52, _⟩ => ⟨S_, .i32⟩
  | .hbm, ⟨53, _⟩ => ⟨S256x118x128, .i32⟩
  | .hbm, ⟨54, _⟩ => ⟨S256x118x128, .i32⟩
  | .hbm, ⟨55, _⟩ => ⟨S_, .i32⟩
  | .hbm, ⟨56, _⟩ => ⟨S256x118x128, .i32⟩
  | .hbm, ⟨57, _⟩ => ⟨S256x118x128, .i32⟩
  | .hbm, ⟨58, _⟩ => ⟨S_, .i32⟩
  | .hbm, ⟨59, _⟩ => ⟨S256x118x128, .i32⟩
  | .hbm, ⟨60, _⟩ => ⟨S256x118x128, .i32⟩
  | .hbm, ⟨61, _⟩ => ⟨S_, .i32⟩
  | .hbm, ⟨62, _⟩ => ⟨S256x118x128, .i32⟩
  | .hbm, ⟨63, _⟩ => ⟨S256x118x128, .i32⟩
  | .hbm, ⟨64, _⟩ => ⟨S_, .i32⟩
  | .hbm, ⟨65, _⟩ => ⟨S256x118x128, .i32⟩
  | .hbm, ⟨66, _⟩ => ⟨S256x118x128, .i32⟩
  | .hbm, ⟨67, _⟩ => ⟨S_, .i32⟩
  | .hbm, ⟨68, _⟩ => ⟨S256x118x128, .i32⟩
  | .hbm, ⟨69, _⟩ => ⟨S256x118x128, .i32⟩
  | .hbm, ⟨70, _⟩ => ⟨S256x118x128, .i32⟩
  | .hbm, ⟨71, _⟩ => ⟨S256x118x128, .i32⟩
  | .hbm, ⟨72, _⟩ => ⟨S32x8x118x128, .i32⟩
  | .hbm, ⟨73, _⟩ => ⟨S32x118x8x128, .i32⟩
  | .hbm, ⟨74, _⟩ => ⟨S256x24, .i32⟩
  | .hbm, ⟨75, _⟩ => ⟨S_, .i32⟩
  | .hbm, ⟨76, _⟩ => ⟨S_, .i32⟩
  | .hbm, ⟨77, _⟩ => ⟨S256x128, .i32⟩
  | .hbm, ⟨78, _⟩ => ⟨S256x768, .f32⟩
  | _, _ => ⟨S2x128x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_call0_v0 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_c_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_call3_v0 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 400000 in
/-- The body up to its last conditional, run from any contents: the buffers it leaves (`R`: what is left of the program, then
    the buffers of the keys, the packed words, the bits, the widened queries, the operand, the popcounts, the minima),
    before what is left of the program. -/
def bodyRun (c : Dev nD) (i : grid0.Coords) (arg1 : Memref sig .tc .vmem S256x768 .bf16) (harg1 : arg1.IsWhole) (arg2 : Memref sig .tc .vmem S24x4096 .i32) (harg2 : arg2.IsWhole) (arg3 : Memref sig .tc .vmem S32x1x8x128 .i32) (harg3 : arg3.IsWhole) (arg4 : Memref sig .tc .vmem S256x128 .i32) (harg4 : arg4.IsWhole) (arg5 : Memref sig .tc .vmem S256x128 .i32) (harg5 : arg5.IsWhole) (arg6 : Memref sig .tc .vmem S256x24 .i32) (harg6 : arg6.IsWhole) (arg7 : Memref sig .tc .vmem S256x768 .f32) (harg7 : arg7.IsWhole) (arg8 : Memref sig .tc .vmem S256x768 .bf16) (harg8 : arg8.IsWhole) (arg9 : Memref sig .tc .vmem S768x512 .bf16) (harg9 : arg9.IsWhole) (arg10 : Memref sig .tc .vmem S768x512 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S15x256x128 .f32) (harg15 : arg15.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) :
    { R : Prog (TpuEff nD τ sig (Elt F) Λ₀ .tc) PUnit × BufTy.Contents (Elt F) arg3.view.ty × BufTy.Contents (Elt F) arg5.view.ty × BufTy.Contents (Elt F) arg6.view.ty × BufTy.Contents (Elt F) arg7.view.ty × BufTy.Contents (Elt F) arg8.view.ty × BufTy.Contents (Elt F) arg14.view.ty × BufTy.Contents (Elt F) arg15.view.ty //
      ∀ (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)
            ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} R.2.1) ∗ (arg4.view.loc (c : Thread nD τ) ↦[arg4.view.set]{fullShare} f4) ∗ (arg5.view.loc (c : Thread nD τ) ↦[arg5.view.set]{fullShare} R.2.2.1) ∗ (arg6.view.loc (c : Thread nD τ) ↦[arg6.view.set]{fullShare} R.2.2.2.1) ∗ (arg7.view.loc (c : Thread nD τ) ↦[arg7.view.set]{fullShare} R.2.2.2.2.1) ∗ (arg8.view.loc (c : Thread nD τ) ↦[arg8.view.set]{fullShare} R.2.2.2.2.2.1) ∗ (∃ g : BufTy.Contents (Elt F) arg9.view.ty, (arg9.view.loc (c : Thread nD τ) ↦[arg9.view.set]{fullShare} g)) ∗ (∃ g : BufTy.Contents (Elt F) arg10.view.ty, (arg10.view.loc (c : Thread nD τ) ↦[arg10.view.set]{fullShare} g)) ∗ (∃ g : BufTy.Contents (Elt F) arg11.view.ty, (arg11.view.loc (c : Thread nD τ) ↦[arg11.view.set]{fullShare} g)) ∗ (∃ g : BufTy.Contents (Elt F) arg12.view.ty, (arg12.view.loc (c : Thread nD τ) ↦[arg12.view.set]{fullShare} g)) ∗ (∃ g : BufTy.Contents (Elt F) arg13.view.ty, (arg13.view.loc (c : Thread nD τ) ↦[arg13.view.set]{fullShare} g)) ∗ (arg14.view.loc (c : Thread nD τ) ↦[arg14.view.set]{fullShare} R.2.2.2.2.2.2.1) ∗ (arg15.view.loc (c : Thread nD τ) ↦[arg15.view.set]{fullShare} R.2.2.2.2.2.2.2)) -∗ wp frame (wpE (defs₀ (F := F)) Variants.none c none) Set.univ (R.1) K))
          ⊢ wp frame (wpE (defs₀ (F := F)) Variants.none c none) Set.univ (cc0_hamming_scan i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_, ?_, ?_, ?_, ?_⟩, fun K => ?run⟩
  case run =>
    dsimp only
    simp only [cc0_hamming_scan_eq_skeleton]; unfold cc0_hamming_scan_skel
    iintro ⟨H1, H2, H3, H4, H5, H6, H7, H8, H9, H10, H11, H12, H13, H14, H15, Hk⟩
    sl_exec
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    iexact H15

/-- What is left of the program, away from the last grid point: nothing. -/
theorem tail_neg (c : Dev nD) (i : grid0.Coords) (arg1 : Memref sig .tc .vmem S256x768 .bf16) (harg1 : arg1.IsWhole) (arg2 : Memref sig .tc .vmem S24x4096 .i32) (harg2 : arg2.IsWhole) (arg3 : Memref sig .tc .vmem S32x1x8x128 .i32) (harg3 : arg3.IsWhole) (arg4 : Memref sig .tc .vmem S256x128 .i32) (harg4 : arg4.IsWhole) (arg5 : Memref sig .tc .vmem S256x128 .i32) (harg5 : arg5.IsWhole) (arg6 : Memref sig .tc .vmem S256x24 .i32) (harg6 : arg6.IsWhole) (arg7 : Memref sig .tc .vmem S256x768 .f32) (harg7 : arg7.IsWhole) (arg8 : Memref sig .tc .vmem S256x768 .bf16) (harg8 : arg8.IsWhole) (arg9 : Memref sig .tc .vmem S768x512 .bf16) (harg9 : arg9.IsWhole) (arg10 : Memref sig .tc .vmem S768x512 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S15x256x128 .f32) (harg15 : arg15.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (h4 : ¬ k0_cond4 i = 1#1) (K : PUnit → sProp 𝕄) :
    K ⟨⟩ ⊢ wp frame (wpE (defs₀ (F := F)) Variants.none c none) Set.univ ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1.1) K := by
  unfold bodyRun; dsimp only
  iintro Hk
  sl_exec
  sl_step
  iexact Hk

/-- What is left of the program at the last grid point: the search and the store of the thresholds. -/
def tailRun (c : Dev nD) (i : grid0.Coords) (arg1 : Memref sig .tc .vmem S256x768 .bf16) (harg1 : arg1.IsWhole) (arg2 : Memref sig .tc .vmem S24x4096 .i32) (harg2 : arg2.IsWhole) (arg3 : Memref sig .tc .vmem S32x1x8x128 .i32) (harg3 : arg3.IsWhole) (arg4 : Memref sig .tc .vmem S256x128 .i32) (harg4 : arg4.IsWhole) (arg5 : Memref sig .tc .vmem S256x128 .i32) (harg5 : arg5.IsWhole) (arg6 : Memref sig .tc .vmem S256x24 .i32) (harg6 : arg6.IsWhole) (arg7 : Memref sig .tc .vmem S256x768 .f32) (harg7 : arg7.IsWhole) (arg8 : Memref sig .tc .vmem S256x768 .bf16) (harg8 : arg8.IsWhole) (arg9 : Memref sig .tc .vmem S768x512 .bf16) (harg9 : arg9.IsWhole) (arg10 : Memref sig .tc .vmem S768x512 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S15x256x128 .f32) (harg15 : arg15.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (h4 : k0_cond4 i = 1#1) (g15 : BufTy.Contents (Elt F) arg15.view.ty) :
    { T : List (View.Piece (Elt F) S256x128 .i32) // ∀ (K : PUnit → sProp 𝕄),
      iprop((arg4.view.loc (c : Thread nD τ) ↦[arg4.view.set]{fullShare} f4) ∗ (arg15.view.loc (c : Thread nD τ) ↦[arg15.view.set]{fullShare} g15)
        ∗ (iprop((arg4.view.loc (c : Thread nD τ) ↦[arg4.view.set]{fullShare} arg4.view.writes (Elt F) f4 T) ∗ (arg15.view.loc (c : Thread nD τ) ↦[arg15.view.set]{fullShare} g15)) -∗ K ⟨⟩))
      ⊢ wp frame (wpE (defs₀ (F := F)) Variants.none c none) Set.univ ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1.1) K } := by
  refine ⟨?_, fun K => ?run⟩
  case run =>
    unfold bodyRun; dsimp only
    iintro ⟨H4, H15, Hk⟩
    sl_exec
    sl_step
    iapply Hk
    isplitl [H4]; · iexact H4
    iexact H15

end Cert.KernelIdeal.Body
-- ==== Proof.Frame.lean ====
module

public import proofs.«01_k».proof.Proof.Body

@[expose] public section

set_option maxRecDepth 16384

noncomputable section

/-! The scan terminates without a fault and leaves its arguments as they were: the body's run at every grid point, the outputs'
    contents left unnamed. -/

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Body
variable (c : Dev nD) (i : grid0.Coords) (arg1 : Memref sig .tc .vmem S256x768 .bf16) (harg1 : arg1.IsWhole) (arg2 : Memref sig .tc .vmem S24x4096 .i32) (harg2 : arg2.IsWhole) (arg3 : Memref sig .tc .vmem S32x1x8x128 .i32) (harg3 : arg3.IsWhole) (arg4 : Memref sig .tc .vmem S256x128 .i32) (harg4 : arg4.IsWhole) (arg5 : Memref sig .tc .vmem S256x128 .i32) (harg5 : arg5.IsWhole) (arg6 : Memref sig .tc .vmem S256x24 .i32) (harg6 : arg6.IsWhole) (arg7 : Memref sig .tc .vmem S256x768 .f32) (harg7 : arg7.IsWhole) (arg8 : Memref sig .tc .vmem S256x768 .bf16) (harg8 : arg8.IsWhole) (arg9 : Memref sig .tc .vmem S768x512 .bf16) (harg9 : arg9.IsWhole) (arg10 : Memref sig .tc .vmem S768x512 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S15x256x128 .f32) (harg15 : arg15.IsWhole)

/-- What is left of the program after the body's run, at any grid point. -/
theorem tail_any (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (g15 : BufTy.Contents (Elt F) arg15.view.ty) (K : PUnit → sProp 𝕄) :
    iprop((arg4.view.loc (c : Thread nD τ) ↦[arg4.view.set]{fullShare} f4) ∗ (arg15.view.loc (c : Thread nD τ) ↦[arg15.view.set]{fullShare} g15)
        ∗ (iprop((∃ g4, arg4.view.loc (c : Thread nD τ) ↦[arg4.view.set]{fullShare} g4) ∗ (arg15.view.loc (c : Thread nD τ) ↦[arg15.view.set]{fullShare} g15)) -∗ K ⟨⟩))
      ⊢ wp frame (wpE (defs₀ (F := F)) Variants.none c none) Set.univ ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1.1) K := by
  by_cases h4 : k0_cond4 i = 1#1
  · iintro ⟨H4, H15, Hk⟩
    iapply ((tailRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15 h4 g15).2 K)
    isplitl [H4]; · iexact H4
    isplitl [H15]; · iexact H15
    iintro ⟨H4, H15⟩
    iapply Hk
    isplitl [H4]; · iexists _; iexact H4
    iexact H15
  · iintro ⟨H4, H15, Hk⟩
    iapply (tail_neg c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15 h4 K)
    iapply Hk
    isplitl [H4]; · iexists _; iexact H4
    iexact H15

/-- A buffer held is a buffer owned at something. -/
theorem owns_any {sp : Space} {sh : Shape} {e : EltTy} (a : Memref sig .tc sp sh e) (g : BufTy.Contents (Elt F) a.view.ty) :
    (a.view.loc (c : Thread nD τ) ↦[a.view.set]{fullShare} g : sProp 𝕄) ⊢ iprop(∃ X, owns (c : Thread nD τ) a fullShare X) := by
  iintro H; iexists _; iapply (owns_intro (c : Thread nD τ) a fullShare g); iexact H

set_option maxHeartbeats 800000 in
/-- The whole body from buffers at any contents to buffers at any contents, the two inputs unchanged. -/
theorem body_any (X1 : S256x768.Idx → Elt F .bf16) (X2 : S24x4096.Idx → Elt F .i32) (K : PUnit → sProp 𝕄) :
    iprop(owns (c : Thread nD τ) arg1 fullShare X1 ∗ owns (c : Thread nD τ) arg2 fullShare X2 ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X)
        ∗ (iprop(owns (c : Thread nD τ) arg1 fullShare X1 ∗ owns (c : Thread nD τ) arg2 fullShare X2 ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X)) -∗ K ⟨⟩))
      ⊢ wp frame (wpE (defs₀ (F := F)) Variants.none c none) Set.univ (cc0_hamming_scan i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f1, %e1, H1⟩, ⟨%f2, %e2, H2⟩, ⟨%Y3, %f3, %e3, H3⟩, ⟨%Y4, %f4, %e4, H4⟩, ⟨%Y5, %f5, %e5, H5⟩, ⟨%Y6, %f6, %e6, H6⟩, ⟨%Y7, %f7, %e7, H7⟩, ⟨%Y8, %f8, %e8, H8⟩, ⟨%Y9, %f9, %e9, H9⟩, ⟨%Y10, %f10, %e10, H10⟩, ⟨%Y11, %f11, %e11, H11⟩, ⟨%Y12, %f12, %e12, H12⟩, ⟨%Y13, %f13, %e13, H13⟩, ⟨%Y14, %f14, %e14, H14⟩, ⟨%Y15, %f15, %e15, H15⟩, Hk⟩
  have key := fun g15 => tail_any c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15 g15 K
  have hr := (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).2 K
  generalize (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1 = R at key hr
  obtain ⟨R0, R3, R5, R6, R7, R8, R14, R15⟩ := R
  dsimp only at key hr
  iapply hr
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, ⟨%g9, H9⟩, ⟨%g10, H10⟩, ⟨%g11, H11⟩, ⟨%g12, H12⟩, ⟨%g13, H13⟩, H14, H15⟩
  iapply (key R15)
  isplitl [H4]; · iexact H4
  isplitl [H15]; · iexact H15
  iintro ⟨⟨%g4, H4⟩, H15⟩
  iapply Hk
  isplitl [H1]
  · iexists f1; isplitr; · ipureintro; exact e1
    iexact H1
  isplitl [H2]
  · iexists f2; isplitr; · ipureintro; exact e2
    iexact H2
  isplitl [H3]
  · iapply (owns_any c arg3 R3)
    iexact H3
  isplitl [H4]
  · iapply (owns_any c arg4 g4)
    iexact H4
  isplitl [H5]
  · iapply (owns_any c arg5 R5)
    iexact H5
  isplitl [H6]
  · iapply (owns_any c arg6 R6)
    iexact H6
  isplitl [H7]
  · iapply (owns_any c arg7 R7)
    iexact H7
  isplitl [H8]
  · iapply (owns_any c arg8 R8)
    iexact H8
  isplitl [H9]
  · iapply (owns_any c arg9 g9)
    iexact H9
  isplitl [H10]
  · iapply (owns_any c arg10 g10)
    iexact H10
  isplitl [H11]
  · iapply (owns_any c arg11 g11)
    iexact H11
  isplitl [H12]
  · iapply (owns_any c arg12 g12)
    iexact H12
  isplitl [H13]
  · iapply (owns_any c arg13 g13)
    iexact H13
  isplitl [H14]
  · iapply (owns_any c arg14 R14)
    iexact H14
  iapply (owns_any c arg15 R15)
  iexact H15

end Body

variable (m : (ℓ : Loc nD τ sig) → Buf (Elt F) ℓ) (ρ : Dev nD → PrngReg)

/-- The documents' words at grid point `t` as the body finds them: the block where the array has it, zero past the array's end. -/
def bits (c : Dev nD) (t : Fin cfg0.N) : S24x4096.Idx → Elt F .i32 :=
  win0_1.fill (grid0.coords t) (fun _ => (0#32 : BitVec 32)) (iblk m c 1 t)

/-- The proof data: the arrays at their contents on entry, the two inputs' buffers left at their blocks, nothing said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => bits m c t
    | ⟨2, _⟩ => Dat.unnamed (cfg := cfg0) 2 t
    | ⟨3, _⟩ => Dat.unnamed (cfg := cfg0) 3 t
    | ⟨4, _⟩ => Dat.unnamed (cfg := cfg0) 4 t
    | ⟨5, _⟩ => Dat.unnamed (cfg := cfg0) 5 t
    | ⟨6, _⟩ => Dat.unnamed (cfg := cfg0) 6 t
  Φ _ := Pipeline.ΦA spec0 c
  q _ := fullShare
  owed _ := 0

/-- The windows whose contents are not named: the outputs. -/
def fgt : Fin cfg0.W → Bool := fun | 0 => false | 1 => false | 2 => true | 3 => true | 4 => true | 5 => true | 6 => true | ⟨_ + 7, h⟩ => absurd h (Nat.not_lt.2 (Nat.le_add_left _ _))

theorem before_0 (c : Dev nD) (t : Fin cfg0.N) (d) : (dats m 0 c).before 0 t d = iblk m c 0 t :=
  before0_0_of m (dats m 0 c) rfl (fun _ => rfl) t d

theorem before_1 (c : Dev nD) (t : Fin cfg0.N) (d) :
    (dats m 0 c).before 1 t d = win0_1.fill (grid0.coords t) d (iblk m c 1 t) := by
  unfold Dat.before; rw [if_pos (fetch0_1 t)]; rfl

/-- The body at point `t`, on the buffers the pipeline is at. -/
def bodyAt (t : Fin cfg0.N) : Prog (TpuEff nD τ sig (Elt F) Λ₀ .tc) PUnit :=
  cc0_hamming_scan (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

theorem defs₀_row (t : Fin cfg0.N) :
    defs₀ (F := F) .tc cfg0.body (cfg0.bodyArgs t (cfg0.slots t)) = bodyAt t := by
  unfold defs₀ bodyAt; rw [Defs.onTc_tc]

/-- The scratch buffers, each at some contents, as the body names them. -/
theorem scratch_eq (c : Dev nD) : (Pipeline.scopedRest (Ix := Unit) (Name := ℕ) (U := UR sig nD τ) (Lvl := ℕ) (Val := Elt F) spec0 c : sProp 𝕄)
    = iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X)) := by
  rw [scopedRest0_eq]
  simp only [owns_whole]

theorem sound_body (c : Dev nD) (t : Fin cfg0.N) :
    iprop((dats (F := F) m 0 c).Φ t.castSucc ∗ (dats m 0 c).owesAt () t.castSucc
      ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ X, owns (c : Thread nD τ) ((cfg0.win 2).stage (cfg0.slots t 2)) fullShare X) ∗ (∃ X, owns (c : Thread nD τ) ((cfg0.win 3).stage (cfg0.slots t 3)) fullShare X) ∗ (∃ X, owns (c : Thread nD τ) ((cfg0.win 4).stage (cfg0.slots t 4)) fullShare X) ∗ (∃ X, owns (c : Thread nD τ) ((cfg0.win 5).stage (cfg0.slots t 5)) fullShare X) ∗ (∃ X, owns (c : Thread nD τ) ((cfg0.win 6).stage (cfg0.slots t 6)) fullShare X))
    ⊢ wp frame (wpE (defs₀ (F := F)) Variants.none c none) Set.univ (bodyAt t) (fun _ => iprop((dats m 0 c).Φ t.succ ∗ (dats m 0 c).owesAt () t.succ
      ∗ owns (c : Thread nD τ) ((cfg0.win 0).stage (cfg0.slots t 0)) fullShare ((dats m 0 c).after 0 t) ∗ (∃ d, owns (c : Thread nD τ) ((cfg0.win 1).stage (cfg0.slots t 1)) fullShare (win0_1.fill (grid0.coords t) d (win0_1.cut (grid0.coords t) ((dats m 0 c).after 1 t)))) ∗ (∃ X, owns (c : Thread nD τ) ((cfg0.win 2).stage (cfg0.slots t 2)) fullShare X) ∗ (∃ X, owns (c : Thread nD τ) ((cfg0.win 3).stage (cfg0.slots t 3)) fullShare X) ∗ (∃ X, owns (c : Thread nD τ) ((cfg0.win 4).stage (cfg0.slots t 4)) fullShare X) ∗ (∃ X, owns (c : Thread nD τ) ((cfg0.win 5).stage (cfg0.slots t 5)) fullShare X) ∗ (∃ X, owns (c : Thread nD τ) ((cfg0.win 6).stage (cfg0.slots t 6)) fullShare X))) := by
  rw [show (dats (F := F) m 0 c).Φ t.succ = Pipeline.ΦA spec0 c from rfl, show (dats (F := F) m 0 c).Φ t.castSucc = Pipeline.ΦA spec0 c from rfl,
    show (dats (F := F) m 0 c).owesAt () t.succ = (dats m 0 c).owesAt () t.castSucc from rfl]
  unfold Pipeline.ΦA bodyAt
  rw [scratch_eq]
  have h1 : win0_1.cut (grid0.coords t) ((dats (F := F) m 0 c).after 1 t) = iblk m c 1 t := win0_1.cut_fill _ _ _
  rw [h1, show (dats (F := F) m 0 c).after 0 t = iblk m c 0 t from rfl]
  iintro ⟨⟨⟨H8, H9, H10, H11, H12, H13, H14, H15⟩, Hg⟩, Ho, ⟨%d0, H1⟩, ⟨%d1, H2⟩, H3, H4, H5, H6, H7⟩
  rw [before_0 m c t d0, before_1 m c t d1]
  iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (win0_1.fill (grid0.coords t) d1 (iblk m c 1 t)) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  isplitl [H8 H9 H10 H11 H12 H13 H14 H15 Hg]
  · isplitl [H8 H9 H10 H11 H12 H13 H14 H15]
    · isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact Hg
  isplitl [Ho]; · iexact Ho
  isplitl [H1]; · iexact H1
  isplitl [H2]; · iexists d1; iexact H2
  isplitl [H3]; · iexact H3
  isplitl [H4]; · iexact H4
  isplitl [H5]; · iexact H5
  isplitl [H6]; · iexact H6
  iexact H7

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-- Termination, the arguments unchanged, every semaphore counter back at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget cfgs (dats m) 0 launch0 defs₀ Variants.none fgt m ρ main (body_obligation m) (fun c => (dats m 0 c).share_full fun _ => rfl) (fun _ _ => rfl)
    (V m) (hmain m Variants.none) (fun _ _ => rfl) (fun _ _ => rfl) _
    (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)

end Cert.KernelIdeal.Run

end
-- ==== Proof.BodyBits.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 400000 in
/-- The body up to its last conditional, run from any contents: the buffers it leaves (`R`: what is left of the program, then
    the buffers of the keys, the packed words, the bits, the widened queries, the operand, the popcounts, the minima),
    before what is left of the program. -/
def bodyRun (c : Dev nD) (i : grid0.Coords) (arg1 : Memref sig .tc .vmem S256x768 .bf16) (harg1 : arg1.IsWhole) (arg2 : Memref sig .tc .vmem S24x4096 .i32) (harg2 : arg2.IsWhole) (arg3 : Memref sig .tc .vmem S32x1x8x128 .i32) (harg3 : arg3.IsWhole) (arg4 : Memref sig .tc .vmem S256x128 .i32) (harg4 : arg4.IsWhole) (arg5 : Memref sig .tc .vmem S256x128 .i32) (harg5 : arg5.IsWhole) (arg6 : Memref sig .tc .vmem S256x24 .i32) (harg6 : arg6.IsWhole) (arg7 : Memref sig .tc .vmem S256x768 .f32) (harg7 : arg7.IsWhole) (arg8 : Memref sig .tc .vmem S256x768 .bf16) (harg8 : arg8.IsWhole) (arg9 : Memref sig .tc .vmem S768x512 .bf16) (harg9 : arg9.IsWhole) (arg10 : Memref sig .tc .vmem S768x512 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S15x256x128 .f32) (harg15 : arg15.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) :
    { R : Prog (TpuEff nD τ sig (Elt F) Λ₀ .tc) PUnit × BufTy.Contents (Elt F) arg3.view.ty × BufTy.Contents (Elt F) arg5.view.ty × BufTy.Contents (Elt F) arg6.view.ty × BufTy.Contents (Elt F) arg7.view.ty × BufTy.Contents (Elt F) arg8.view.ty × BufTy.Contents (Elt F) arg14.view.ty × BufTy.Contents (Elt F) arg15.view.ty //
      ∀ (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)
            ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} R.2.1) ∗ (arg4.view.loc (c : Thread nD τ) ↦[arg4.view.set]{fullShare} f4) ∗ (arg5.view.loc (c : Thread nD τ) ↦[arg5.view.set]{fullShare} R.2.2.1) ∗ (arg6.view.loc (c : Thread nD τ) ↦[arg6.view.set]{fullShare} R.2.2.2.1) ∗ (arg7.view.loc (c : Thread nD τ) ↦[arg7.view.set]{fullShare} R.2.2.2.2.1) ∗ (arg8.view.loc (c : Thread nD τ) ↦[arg8.view.set]{fullShare} R.2.2.2.2.2.1) ∗ (∃ g : BufTy.Contents (Elt F) arg9.view.ty, (arg9.view.loc (c : Thread nD τ) ↦[arg9.view.set]{fullShare} g)) ∗ (∃ g : BufTy.Contents (Elt F) arg10.view.ty, (arg10.view.loc (c : Thread nD τ) ↦[arg10.view.set]{fullShare} g)) ∗ (∃ g : BufTy.Contents (Elt F) arg11.view.ty, (arg11.view.loc (c : Thread nD τ) ↦[arg11.view.set]{fullShare} g)) ∗ (∃ g : BufTy.Contents (Elt F) arg12.view.ty, (arg12.view.loc (c : Thread nD τ) ↦[arg12.view.set]{fullShare} g)) ∗ (∃ g : BufTy.Contents (Elt F) arg13.view.ty, (arg13.view.loc (c : Thread nD τ) ↦[arg13.view.set]{fullShare} g)) ∗ (arg14.view.loc (c : Thread nD τ) ↦[arg14.view.set]{fullShare} R.2.2.2.2.2.2.1) ∗ (arg15.view.loc (c : Thread nD τ) ↦[arg15.view.set]{fullShare} R.2.2.2.2.2.2.2)) -∗ wp frame (wpE (defs₀ (F := F)) Variants.none c none) Set.univ (R.1) K))
          ⊢ wp frame (wpE (defs₀ (F := F)) Variants.none c none) Set.univ (cc0_hamming_scan i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_, ?_, ?_, ?_, ?_⟩, fun K => ?run⟩
  case run =>
    dsimp only
    simp only [cc0_hamming_scan_eq_skeleton]; unfold cc0_hamming_scan_skel
    iintro ⟨H1, H2, H3, H4, H5, H6, H7, H8, H9, H10, H11, H12, H13, H14, H15, Hk⟩
    sl_exec
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    iexact H15

/-- What is left of the program, away from the last grid point: nothing. -/
theorem tail_neg (c : Dev nD) (i : grid0.Coords) (arg1 : Memref sig .tc .vmem S256x768 .bf16) (harg1 : arg1.IsWhole) (arg2 : Memref sig .tc .vmem S24x4096 .i32) (harg2 : arg2.IsWhole) (arg3 : Memref sig .tc .vmem S32x1x8x128 .i32) (harg3 : arg3.IsWhole) (arg4 : Memref sig .tc .vmem S256x128 .i32) (harg4 : arg4.IsWhole) (arg5 : Memref sig .tc .vmem S256x128 .i32) (harg5 : arg5.IsWhole) (arg6 : Memref sig .tc .vmem S256x24 .i32) (harg6 : arg6.IsWhole) (arg7 : Memref sig .tc .vmem S256x768 .f32) (harg7 : arg7.IsWhole) (arg8 : Memref sig .tc .vmem S256x768 .bf16) (harg8 : arg8.IsWhole) (arg9 : Memref sig .tc .vmem S768x512 .bf16) (harg9 : arg9.IsWhole) (arg10 : Memref sig .tc .vmem S768x512 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S15x256x128 .f32) (harg15 : arg15.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (h4 : ¬ k0_cond4 i = 1#1) (K : PUnit → sProp 𝕄) :
    K ⟨⟩ ⊢ wp frame (wpE (defs₀ (F := F)) Variants.none c none) Set.univ ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1.1) K := by
  unfold bodyRun; dsimp only
  iintro Hk
  sl_exec
  sl_step
  iexact Hk

/-- What is left of the program at the last grid point: the search and the store of the thresholds. -/
def tailRun (c : Dev nD) (i : grid0.Coords) (arg1 : Memref sig .tc .vmem S256x768 .bf16) (harg1 : arg1.IsWhole) (arg2 : Memref sig .tc .vmem S24x4096 .i32) (harg2 : arg2.IsWhole) (arg3 : Memref sig .tc .vmem S32x1x8x128 .i32) (harg3 : arg3.IsWhole) (arg4 : Memref sig .tc .vmem S256x128 .i32) (harg4 : arg4.IsWhole) (arg5 : Memref sig .tc .vmem S256x128 .i32) (harg5 : arg5.IsWhole) (arg6 : Memref sig .tc .vmem S256x24 .i32) (harg6 : arg6.IsWhole) (arg7 : Memref sig .tc .vmem S256x768 .f32) (harg7 : arg7.IsWhole) (arg8 : Memref sig .tc .vmem S256x768 .bf16) (harg8 : arg8.IsWhole) (arg9 : Memref sig .tc .vmem S768x512 .bf16) (harg9 : arg9.IsWhole) (arg10 : Memref sig .tc .vmem S768x512 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S15x256x128 .f32) (harg15 : arg15.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (h4 : k0_cond4 i = 1#1) (g15 : BufTy.Contents (Elt F) arg15.view.ty) :
    { T : List (View.Piece (Elt F) S256x128 .i32) // ∀ (K : PUnit → sProp 𝕄),
      iprop((arg4.view.loc (c : Thread nD τ) ↦[arg4.view.set]{fullShare} f4) ∗ (arg15.view.loc (c : Thread nD τ) ↦[arg15.view.set]{fullShare} g15)
        ∗ (iprop((arg4.view.loc (c : Thread nD τ) ↦[arg4.view.set]{fullShare} arg4.view.writes (Elt F) f4 T) ∗ (arg15.view.loc (c : Thread nD τ) ↦[arg15.view.set]{fullShare} g15)) -∗ K ⟨⟩))
      ⊢ wp frame (wpE (defs₀ (F := F)) Variants.none c none) Set.univ ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1.1) K } := by
  refine ⟨?_, fun K => ?run⟩
  case run =>
    unfold bodyRun; dsimp only
    iintro ⟨H4, H15, Hk⟩
    sl_exec
    sl_step
    iapply Hk
    isplitl [H4]; · iexact H4
    iexact H15

end Cert.Kernel.Body
-- ==== Proof.FrameBits.lean ====
module

public import proofs.«01_k».proof.Proof.BodyBits

@[expose] public section

set_option maxRecDepth 16384

noncomputable section

/-! The scan terminates without a fault and leaves its arguments as they were: the body's run at every grid point, the outputs'
    contents left unnamed. -/

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Body
variable (c : Dev nD) (i : grid0.Coords) (arg1 : Memref sig .tc .vmem S256x768 .bf16) (harg1 : arg1.IsWhole) (arg2 : Memref sig .tc .vmem S24x4096 .i32) (harg2 : arg2.IsWhole) (arg3 : Memref sig .tc .vmem S32x1x8x128 .i32) (harg3 : arg3.IsWhole) (arg4 : Memref sig .tc .vmem S256x128 .i32) (harg4 : arg4.IsWhole) (arg5 : Memref sig .tc .vmem S256x128 .i32) (harg5 : arg5.IsWhole) (arg6 : Memref sig .tc .vmem S256x24 .i32) (harg6 : arg6.IsWhole) (arg7 : Memref sig .tc .vmem S256x768 .f32) (harg7 : arg7.IsWhole) (arg8 : Memref sig .tc .vmem S256x768 .bf16) (harg8 : arg8.IsWhole) (arg9 : Memref sig .tc .vmem S768x512 .bf16) (harg9 : arg9.IsWhole) (arg10 : Memref sig .tc .vmem S768x512 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S15x256x128 .f32) (harg15 : arg15.IsWhole)

/-- What is left of the program after the body's run, at any grid point. -/
theorem tail_any (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (g15 : BufTy.Contents (Elt F) arg15.view.ty) (K : PUnit → sProp 𝕄) :
    iprop((arg4.view.loc (c : Thread nD τ) ↦[arg4.view.set]{fullShare} f4) ∗ (arg15.view.loc (c : Thread nD τ) ↦[arg15.view.set]{fullShare} g15)
        ∗ (iprop((∃ g4, arg4.view.loc (c : Thread nD τ) ↦[arg4.view.set]{fullShare} g4) ∗ (arg15.view.loc (c : Thread nD τ) ↦[arg15.view.set]{fullShare} g15)) -∗ K ⟨⟩))
      ⊢ wp frame (wpE (defs₀ (F := F)) Variants.none c none) Set.univ ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1.1) K := by
  by_cases h4 : k0_cond4 i = 1#1
  · iintro ⟨H4, H15, Hk⟩
    iapply ((tailRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15 h4 g15).2 K)
    isplitl [H4]; · iexact H4
    isplitl [H15]; · iexact H15
    iintro ⟨H4, H15⟩
    iapply Hk
    isplitl [H4]; · iexists _; iexact H4
    iexact H15
  · iintro ⟨H4, H15, Hk⟩
    iapply (tail_neg c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15 h4 K)
    iapply Hk
    isplitl [H4]; · iexists _; iexact H4
    iexact H15

/-- A buffer held is a buffer owned at something. -/
theorem owns_any {sp : Space} {sh : Shape} {e : EltTy} (a : Memref sig .tc sp sh e) (g : BufTy.Contents (Elt F) a.view.ty) :
    (a.view.loc (c : Thread nD τ) ↦[a.view.set]{fullShare} g : sProp 𝕄) ⊢ iprop(∃ X, owns (c : Thread nD τ) a fullShare X) := by
  iintro H; iexists _; iapply (owns_intro (c : Thread nD τ) a fullShare g); iexact H

set_option maxHeartbeats 800000 in
/-- The whole body from buffers at any contents to buffers at any contents, the two inputs unchanged. -/
theorem body_any (X1 : S256x768.Idx → Elt F .bf16) (X2 : S24x4096.Idx → Elt F .i32) (K : PUnit → sProp 𝕄) :
    iprop(owns (c : Thread nD τ) arg1 fullShare X1 ∗ owns (c : Thread nD τ) arg2 fullShare X2 ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X)
        ∗ (iprop(owns (c : Thread nD τ) arg1 fullShare X1 ∗ owns (c : Thread nD τ) arg2 fullShare X2 ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X)) -∗ K ⟨⟩))
      ⊢ wp frame (wpE (defs₀ (F := F)) Variants.none c none) Set.univ (cc0_hamming_scan i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f1, %e1, H1⟩, ⟨%f2, %e2, H2⟩, ⟨%Y3, %f3, %e3, H3⟩, ⟨%Y4, %f4, %e4, H4⟩, ⟨%Y5, %f5, %e5, H5⟩, ⟨%Y6, %f6, %e6, H6⟩, ⟨%Y7, %f7, %e7, H7⟩, ⟨%Y8, %f8, %e8, H8⟩, ⟨%Y9, %f9, %e9, H9⟩, ⟨%Y10, %f10, %e10, H10⟩, ⟨%Y11, %f11, %e11, H11⟩, ⟨%Y12, %f12, %e12, H12⟩, ⟨%Y13, %f13, %e13, H13⟩, ⟨%Y14, %f14, %e14, H14⟩, ⟨%Y15, %f15, %e15, H15⟩, Hk⟩
  have key := fun g15 => tail_any c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15 g15 K
  have hr := (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).2 K
  generalize (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1 = R at key hr
  obtain ⟨R0, R3, R5, R6, R7, R8, R14, R15⟩ := R
  dsimp only at key hr
  iapply hr
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, ⟨%g9, H9⟩, ⟨%g10, H10⟩, ⟨%g11, H11⟩, ⟨%g12, H12⟩, ⟨%g13, H13⟩, H14, H15⟩
  iapply (key R15)
  isplitl [H4]; · iexact H4
  isplitl [H15]; · iexact H15
  iintro ⟨⟨%g4, H4⟩, H15⟩
  iapply Hk
  isplitl [H1]
  · iexists f1; isplitr; · ipureintro; exact e1
    iexact H1
  isplitl [H2]
  · iexists f2; isplitr; · ipureintro; exact e2
    iexact H2
  isplitl [H3]
  · iapply (owns_any c arg3 R3)
    iexact H3
  isplitl [H4]
  · iapply (owns_any c arg4 g4)
    iexact H4
  isplitl [H5]
  · iapply (owns_any c arg5 R5)
    iexact H5
  isplitl [H6]
  · iapply (owns_any c arg6 R6)
    iexact H6
  isplitl [H7]
  · iapply (owns_any c arg7 R7)
    iexact H7
  isplitl [H8]
  · iapply (owns_any c arg8 R8)
    iexact H8
  isplitl [H9]
  · iapply (owns_any c arg9 g9)
    iexact H9
  isplitl [H10]
  · iapply (owns_any c arg10 g10)
    iexact H10
  isplitl [H11]
  · iapply (owns_any c arg11 g11)
    iexact H11
  isplitl [H12]
  · iapply (owns_any c arg12 g12)
    iexact H12
  isplitl [H13]
  · iapply (owns_any c arg13 g13)
    iexact H13
  isplitl [H14]
  · iapply (owns_any c arg14 R14)
    iexact H14
  iapply (owns_any c arg15 R15)
  iexact H15

end Body

variable (m : (ℓ : Loc nD τ sig) → Buf (Elt F) ℓ) (ρ : Dev nD → PrngReg)

/-- The documents' words at grid point `t` as the body finds them: the block where the array has it, zero past the array's end. -/
def bits (c : Dev nD) (t : Fin cfg0.N) : S24x4096.Idx → Elt F .i32 :=
  win0_1.fill (grid0.coords t) (fun _ => (0#32 : BitVec 32)) (iblk m c 1 t)

/-- The proof data: the arrays at their contents on entry, the two inputs' buffers left at their blocks, nothing said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => bits m c t
    | ⟨2, _⟩ => Dat.unnamed (cfg := cfg0) 2 t
    | ⟨3, _⟩ => Dat.unnamed (cfg := cfg0) 3 t
    | ⟨4, _⟩ => Dat.unnamed (cfg := cfg0) 4 t
    | ⟨5, _⟩ => Dat.unnamed (cfg := cfg0) 5 t
    | ⟨6, _⟩ => Dat.unnamed (cfg := cfg0) 6 t
  Φ _ := Pipeline.ΦA spec0 c
  q _ := fullShare
  owed _ := 0

/-- The windows whose contents are not named: the outputs. -/
def fgt : Fin cfg0.W → Bool := fun | 0 => false | 1 => false | 2 => true | 3 => true | 4 => true | 5 => true | 6 => true | ⟨_ + 7, h⟩ => absurd h (Nat.not_lt.2 (Nat.le_add_left _ _))

theorem before_0 (c : Dev nD) (t : Fin cfg0.N) (d) : (dats m 0 c).before 0 t d = iblk m c 0 t :=
  before0_0_of m (dats m 0 c) rfl (fun _ => rfl) t d

theorem before_1 (c : Dev nD) (t : Fin cfg0.N) (d) :
    (dats m 0 c).before 1 t d = win0_1.fill (grid0.coords t) d (iblk m c 1 t) := by
  unfold Dat.before; rw [if_pos (fetch0_1 t)]; rfl

/-- The body at point `t`, on the buffers the pipeline is at. -/
def bodyAt (t : Fin cfg0.N) : Prog (TpuEff nD τ sig (Elt F) Λ₀ .tc) PUnit :=
  cc0_hamming_scan (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

theorem defs₀_row (t : Fin cfg0.N) :
    defs₀ (F := F) .tc cfg0.body (cfg0.bodyArgs t (cfg0.slots t)) = bodyAt t := by
  unfold defs₀ bodyAt; rw [Defs.onTc_tc]

/-- The scratch buffers, each at some contents, as the body names them. -/
theorem scratch_eq (c : Dev nD) : (Pipeline.scopedRest (Ix := Unit) (Name := ℕ) (U := UR sig nD τ) (Lvl := ℕ) (Val := Elt F) spec0 c : sProp 𝕄)
    = iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X)) := by
  rw [scopedRest0_eq]
  simp only [owns_whole]

theorem sound_body (c : Dev nD) (t : Fin cfg0.N) :
    iprop((dats (F := F) m 0 c).Φ t.castSucc ∗ (dats m 0 c).owesAt () t.castSucc
      ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ X, owns (c : Thread nD τ) ((cfg0.win 2).stage (cfg0.slots t 2)) fullShare X) ∗ (∃ X, owns (c : Thread nD τ) ((cfg0.win 3).stage (cfg0.slots t 3)) fullShare X) ∗ (∃ X, owns (c : Thread nD τ) ((cfg0.win 4).stage (cfg0.slots t 4)) fullShare X) ∗ (∃ X, owns (c : Thread nD τ) ((cfg0.win 5).stage (cfg0.slots t 5)) fullShare X) ∗ (∃ X, owns (c : Thread nD τ) ((cfg0.win 6).stage (cfg0.slots t 6)) fullShare X))
    ⊢ wp frame (wpE (defs₀ (F := F)) Variants.none c none) Set.univ (bodyAt t) (fun _ => iprop((dats m 0 c).Φ t.succ ∗ (dats m 0 c).owesAt () t.succ
      ∗ owns (c : Thread nD τ) ((cfg0.win 0).stage (cfg0.slots t 0)) fullShare ((dats m 0 c).after 0 t) ∗ (∃ d, owns (c : Thread nD τ) ((cfg0.win 1).stage (cfg0.slots t 1)) fullShare (win0_1.fill (grid0.coords t) d (win0_1.cut (grid0.coords t) ((dats m 0 c).after 1 t)))) ∗ (∃ X, owns (c : Thread nD τ) ((cfg0.win 2).stage (cfg0.slots t 2)) fullShare X) ∗ (∃ X, owns (c : Thread nD τ) ((cfg0.win 3).stage (cfg0.slots t 3)) fullShare X) ∗ (∃ X, owns (c : Thread nD τ) ((cfg0.win 4).stage (cfg0.slots t 4)) fullShare X) ∗ (∃ X, owns (c : Thread nD τ) ((cfg0.win 5).stage (cfg0.slots t 5)) fullShare X) ∗ (∃ X, owns (c : Thread nD τ) ((cfg0.win 6).stage (cfg0.slots t 6)) fullShare X))) := by
  rw [show (dats (F := F) m 0 c).Φ t.succ = Pipeline.ΦA spec0 c from rfl, show (dats (F := F) m 0 c).Φ t.castSucc = Pipeline.ΦA spec0 c from rfl,
    show (dats (F := F) m 0 c).owesAt () t.succ = (dats m 0 c).owesAt () t.castSucc from rfl]
  unfold Pipeline.ΦA bodyAt
  rw [scratch_eq]
  have h1 : win0_1.cut (grid0.coords t) ((dats (F := F) m 0 c).after 1 t) = iblk m c 1 t := win0_1.cut_fill _ _ _
  rw [h1, show (dats (F := F) m 0 c).after 0 t = iblk m c 0 t from rfl]
  iintro ⟨⟨⟨H8, H9, H10, H11, H12, H13, H14, H15⟩, Hg⟩, Ho, ⟨%d0, H1⟩, ⟨%d1, H2⟩, H3, H4, H5, H6, H7⟩
  rw [before_0 m c t d0, before_1 m c t d1]
  iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (win0_1.fill (grid0.coords t) d1 (iblk m c 1 t)) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  isplitl [H8 H9 H10 H11 H12 H13 H14 H15 Hg]
  · isplitl [H8 H9 H10 H11 H12 H13 H14 H15]
    · isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact Hg
  isplitl [Ho]; · iexact Ho
  isplitl [H1]; · iexact H1
  isplitl [H2]; · iexists d1; iexact H2
  isplitl [H3]; · iexact H3
  isplitl [H4]; · iexact H4
  isplitl [H5]; · iexact H5
  isplitl [H6]; · iexact H6
  iexact H7

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-- Termination, the arguments unchanged, every semaphore counter back at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget cfgs (dats m) 0 launch0 defs₀ Variants.none fgt m ρ main (body_obligation m) (fun c => (dats m 0 c).share_full fun _ => rfl) (fun _ _ => rfl)
    (V m) (hmain m Variants.none) (fun _ _ => rfl) (fun _ _ => rfl) _
    (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)

end Cert.Kernel.Run

end
-- ==== Proof.Scan.lean ====
module

public import proofs.«01_k».proof.Proof.Body
public import Idealize.ShloMosaic.Lib.Pipeline.Value
public import Idealize.ShloMosaic.Lib.Pipeline.ReadBack
public import Idealize.ShloMosaic.Lib.ValueIdxCore

@[expose] public section

set_option maxRecDepth 16384

noncomputable section

/-! What one grid point computes, written once: the documents' bits spread into an operand, its product with the queries,
    and the three smallest of the thirty-two tiles kept lane by lane. -/

namespace Cert.KernelIdeal.Scan

open Cert.KernelIdeal Cert.KernelIdeal.Gen Cert.KernelIdeal.Body
open Idealize.ShloMosaic Idealize.ShloMosaic.TcCoe Idealize.ShloMosaic.Tactic
open Idealize.SL Idealize.SL.RA Idealize.SL.BI
open Idealize.ShloMosaic.Pipeline (Dat Cfg Window)
open Idealize.ShloMosaic.ValueIdx

variable {F : FTy → Type} [FloatOps F]

/-- The first column of chunk `c`. -/
def col (c : Fin 8) : Nat :=
  match c with
  | 0 => 0 | 1 => 512 | 2 => 1024 | 3 => 1536 | 4 => 2048 | 5 => 2560 | 6 => 3072 | 7 => 3584

def colBits (c : Fin 8) : BitVec 32 :=
  match c with
  | 0 => 0#32 | 1 => 512#32 | 2 => 1024#32 | 3 => 1536#32 | 4 => 2048#32 | 5 => 2560#32 | 6 => 3072#32 | 7 => 3584#32

theorem col_eq (c : Fin 8) : col c = 512 * c.val := by fin_cases c <;> rfl
theorem colBits_eq (c : Fin 8) : colBits c = BitVec.ofNat 32 (512 * c.val) := by fin_cases c <;> rfl

theorem inbW (v : Fin 3) (c : Fin 8) : ∀ a, (![8 * v.val, col c] : Fin 2 → Nat) a + S8x512.size a ≤ S24x4096.size a := by
  intro a; fin_cases a
  · show 8 * v.val + 8 ≤ 24; omega
  · show col c + 512 ≤ 4096; rw [col_eq]; omega

theorem inbP (n : Fin 48) : ∀ a, (![16 * n.val, 0] : Fin 2 → Nat) a + S16x512.size a ≤ S768x512.size a := by
  intro a; fin_cases a
  · show 16 * n.val + 16 ≤ 768; omega
  · show 0 + 512 ≤ 512; omega

/-- Which of chunk `c`'s documents exist. -/
def live (i : grid0.Coords) (c : Fin 8) : IVec S8x512 1 :=
  cmpi .slt (iota .tc S8x512 32 [1] iota_S8x512_d1_w32)
    (broadcast S8x512 (Scalar.subi 480000#32 (Scalar.addi (Scalar.muli (BitVec.ofNat 32 (i 0).val) 4096#32) (colBits c))))

/-- Eight words of each of chunk `c`'s documents, zero for a document past the last. -/
def words (i : grid0.Coords) (X2 : S24x4096.Idx → Elt F .i32) (c : Fin 8) (v : Fin 3) : IVec S8x512 32 :=
  select (live i c) (shapeCast S8x512 (View.ld X2 (Rect.unit ![8 * v.val, col c] S8x512.size (inbW v c))) shapeCasts_S8x512_S8x512) (broadcast S8x512 0#32)

/-- The words moved so that the four bits of group `a` fall on the bits of an exponent. -/
def moved (w : IVec S8x512 32) (a : Nat) : IVec S8x512 32 :=
  match a with
  | 0 => shli w (broadcast S8x512 11#32)
  | 1 => shli w (broadcast S8x512 7#32)
  | 2 => shli w (broadcast S8x512 3#32)
  | _ => shrui w (broadcast S8x512 1#32)

/-- The two bits of each word that piece `j` of its group keeps. -/
def mask (j : Nat) : BitVec 32 :=
  match j with
  | 0 => 134219776#32
  | 1 => 268439552#32
  | 2 => 536879104#32
  | _ => 1073758208#32

/-- Piece `j` of eight words: sixteen rows of numbers, each zero or one power of two. -/
def piece (w : IVec S8x512 32) (j : Nat) : FVec F S16x512 .bf16 :=
  shapeCast S16x512 (bitcastToFloat .bf16 (bitcast S16x512 16 (andi (moved w (j / 4)) (broadcast S8x512 (mask (j % 4)))) bitcasts_S8x512_w32_S16x512_w16))
    shapeCasts_S16x512_S16x512

def third (n : Fin 48) : Fin 3 := ⟨n.val / 16, by omega⟩

def store (w : Fin 3 → IVec S8x512 32) (n : Fin 48) : View.Piece (Elt F) S768x512 .bf16 :=
  ⟨Rect.unit ![16 * n.val, 0] S16x512.size (inbP n), piece (w (third n)) (n.val % 16)⟩

def order : List (Fin 48) := [47, 46, 45, 44, 43, 42, 41, 40, 39, 38, 37, 36, 35, 34, 33, 32, 31, 30, 29, 28, 27, 26, 25, 24, 23, 22, 21, 20, 19, 18, 17, 16,
  15, 14, 13, 12, 11, 10, 9, 8, 7, 6, 5, 4, 3, 2, 1, 0]

/-- The operand: row `256 v + 16 j + r` is row `r` of piece `j` of the words `v`. -/
def operand (w : Fin 3 → IVec S8x512 32) : FVec F S768x512 .bf16 := fun y =>
  piece (w ⟨(y 0).val / 256, by have := (y 0).isLt; change (y 0).val < 768 at this; omega⟩) ((y 0).val / 16 % 16)
    (ix2 (n0 := 16) (n1 := 512) ⟨(y 0).val % 16, by omega⟩ (y 1))

theorem store_apply (w : Fin 3 → IVec S8x512 32) (n : Fin 48) (x : S16x512.Idx) :
    (store (F := F) w n).2 x = operand w ((store (F := F) w n).1.emb x) := by
  have hx : (x 0).val < 16 := (x 0).isLt
  have h0 : (((store (F := F) w n).1.emb x) 0).val = 16 * n.val + (x 0).val := by
    show 16 * n.val + 1 * (x 0).val = _; omega
  have h1 : ((store (F := F) w n).1.emb x) 1 = x 1 := Fin.ext (by show 0 + 1 * (x 1).val = (x 1).val; omega)
  unfold operand
  have e1 : (⟨(((store (F := F) w n).1.emb x) 0).val / 256, by rw [h0]; omega⟩ : Fin 3) = third n := Fin.ext (by
    show (((store (F := F) w n).1.emb x) 0).val / 256 = n.val / 16; rw [h0]; omega)
  have e2 : (((store (F := F) w n).1.emb x) 0).val / 16 % 16 = n.val % 16 := by rw [h0]; omega
  have e3 : ix2 (n0 := 16) (n1 := 512) ⟨(((store (F := F) w n).1.emb x) 0).val % 16, by omega⟩ (((store (F := F) w n).1.emb x) 1) = x := by
    funext a
    match a with
    | ⟨0, _⟩ => exact Fin.ext (by show (((store (F := F) w n).1.emb x) 0).val % 16 = (x 0).val; rw [h0]; omega)
    | ⟨1, _⟩ => exact h1
  rw [e1, e2, e3]
  rfl

theorem store_mem (w : Fin 3 → IVec S8x512 32) (y : S768x512.Idx) : ∃ p ∈ order.map (store (F := F) w), y ∈ p.1.set := by
  have hy : (y 0).val < 768 := (y 0).isLt
  refine ⟨store w ⟨(y 0).val / 16, by omega⟩, List.mem_map_of_mem (by
    have : ∀ n : Fin 48, n ∈ order := by decide
    exact this _), ?_⟩
  show y ∈ (Rect.unit (s := S768x512) ![16 * ((y 0).val / 16), 0] S16x512.size (inbP ⟨(y 0).val / 16, by omega⟩)).set
  refine Rect.mem_set_unit.mpr fun a => ?_
  match a with
  | ⟨0, _⟩ => exact ⟨by show 16 * ((y 0).val / 16) ≤ (y 0).val; omega, by show (y 0).val < 16 * ((y 0).val / 16) + 16; omega⟩
  | ⟨1, _⟩ => exact ⟨Nat.zero_le _, by show (y 1).val < 0 + 512; have := (y 1).isLt; change (y 1).val < 512 at this; omega⟩

/-- A load of the whole operand after its forty-eight stores reads the operand. -/
theorem canon_store (w : Fin 3 → IVec S8x512 32) (L : List (View.Piece (Elt F) S768x512 .bf16)) (y : S768x512.Idx) :
    View.canon (order.map (store w) ++ L) y = operand w y := by
  refine View.canon_append_of_pieces (operand w) L _ ?_ y (store_mem w y)
  intro p hp x
  obtain ⟨n, -, rfl⟩ := List.mem_map.mp hp
  exact store_apply w n x

theorem readCov_store (v : View sig .tc .vmem S768x512 .bf16) (w : Fin 3 → IVec S8x512 32) (L L' : List (View.Piece (Elt F) S768x512 .bf16))
    (h : L = order.map (store w) ++ L') (inb) :
    v.readCov L (Rect.unit ![0, 0] S768x512.size inb).toLoadRect = operand w := by
  subst h
  rw [View.readCov_eq_canon']
  funext y
  rw [canon_store]
  exact congrArg (operand w) (funext fun a => Fin.ext (by
    show (![0, 0] : Fin 2 → Nat) a + 1 * (y a).val = (y a).val
    have h0 : (![0, 0] : Fin 2 → Nat) a = 0 := by fin_cases a <;> rfl
    rw [h0]; omega))

section
variable (i : grid0.Coords) (arg2 : Memref sig .tc .vmem S24x4096 .i32) (arg9 : Memref sig .tc .vmem S768x512 .bf16) (arg10 : Memref sig .tc .vmem S768x512 .bf16)
  (f2 : BufTy.Contents (Elt F) arg2.view.ty)

theorem operand_0 : bodyRun.sl.v334 i arg2 arg9 f2 = operand (words i (arg2.view.read (Elt F) f2) 0) := by
  have h : bodyRun.sl.H9_48 i arg2 f2 = order.map (store (words i (arg2.view.read (Elt F) f2) 0)) ++ [] := by rfl
  exact readCov_store _ _ _ _ h _
theorem operand_1 : bodyRun.sl.v720 i arg2 arg10 f2 = operand (words i (arg2.view.read (Elt F) f2) 1) := by
  have h : bodyRun.sl.H10_48 i arg2 f2 = order.map (store (words i (arg2.view.read (Elt F) f2) 1)) ++ [] := by rfl
  exact readCov_store _ _ _ _ h _
theorem operand_2 : bodyRun.sl.v1118 i arg2 arg9 f2 = operand (words i (arg2.view.read (Elt F) f2) 2) := by
  have h : bodyRun.sl.H9_96 i arg2 f2 = order.map (store (words i (arg2.view.read (Elt F) f2) 2)) ++ (bodyRun.sl.H9_48 i arg2 f2) := by rfl
  exact readCov_store _ _ _ _ h _
theorem operand_3 : bodyRun.sl.v1516 i arg2 arg10 f2 = operand (words i (arg2.view.read (Elt F) f2) 3) := by
  have h : bodyRun.sl.H10_96 i arg2 f2 = order.map (store (words i (arg2.view.read (Elt F) f2) 3)) ++ (bodyRun.sl.H10_48 i arg2 f2) := by rfl
  exact readCov_store _ _ _ _ h _
theorem operand_4 : bodyRun.sl.v1914 i arg2 arg9 f2 = operand (words i (arg2.view.read (Elt F) f2) 4) := by
  have h : bodyRun.sl.H9_144 i arg2 f2 = order.map (store (words i (arg2.view.read (Elt F) f2) 4)) ++ (bodyRun.sl.H9_96 i arg2 f2) := by rfl
  exact readCov_store _ _ _ _ h _
theorem operand_5 : bodyRun.sl.v2312 i arg2 arg10 f2 = operand (words i (arg2.view.read (Elt F) f2) 5) := by
  have h : bodyRun.sl.H10_144 i arg2 f2 = order.map (store (words i (arg2.view.read (Elt F) f2) 5)) ++ (bodyRun.sl.H10_96 i arg2 f2) := by rfl
  exact readCov_store _ _ _ _ h _
theorem operand_6 : bodyRun.sl.v2710 i arg2 arg9 f2 = operand (words i (arg2.view.read (Elt F) f2) 6) := by
  have h : bodyRun.sl.H9_192 i arg2 f2 = order.map (store (words i (arg2.view.read (Elt F) f2) 6)) ++ (bodyRun.sl.H9_144 i arg2 f2) := by rfl
  exact readCov_store _ _ _ _ h _
theorem operand_7 : bodyRun.sl.v3108 i arg2 arg10 f2 = operand (words i (arg2.view.read (Elt F) f2) 7) := by
  have h : bodyRun.sl.H10_192 i arg2 f2 = order.map (store (words i (arg2.view.read (Elt F) f2) 7)) ++ (bodyRun.sl.H10_144 i arg2 f2) := by rfl
  exact readCov_store _ _ _ _ h _

end

end Cert.KernelIdeal.Scan

end
-- ==== Proof.Tiles.lean ====
module

public import proofs.«01_k».proof.Proof.Scan

@[expose] public section

set_option maxRecDepth 16384

noncomputable section

/-! The three smallest of the thirty-two tiles of a grid point, lane by lane, and the word packed from them. -/

namespace Cert.KernelIdeal.Scan

open Cert.KernelIdeal Cert.KernelIdeal.Gen Cert.KernelIdeal.Body
open Idealize.ShloMosaic Idealize.ShloMosaic.TcCoe Idealize.ShloMosaic.Tactic
open Idealize.SL Idealize.SL.RA Idealize.SL.BI
open Idealize.ShloMosaic.Pipeline (Dat Cfg Window)
open Idealize.ShloMosaic.ValueIdx

variable {F : FTy → Type} [FloatOps F]

/-- Three arrays of one shape: the smallest, the second and the third. -/
structure Three (F : FTy → Type) [FloatOps F] where
  a : FVec F S256x128 .f32
  b : FVec F S256x128 .f32
  c : FVec F S256x128 .f32

theorem three_ext {x y : Three F} (ha : x.a = y.a) (hb : x.b = y.b) (hc : x.c = y.c) : x = y := by
  cases x; cases y; cases ha; cases hb; cases hc; rfl

def four {α : Type} (a b c d : α) (t : Fin 4) : α :=
  match t with
  | 0 => a | 1 => b | 2 => c | 3 => d

/-- Tile `t` of chunk `c` has the place `4 c + t`; its thirty-second part as the program writes it. -/
def part (c : Fin 8) (t : Fin 4) : BitVec 32 :=
  match c with
  | 0 => four 0x00000000#32 0x3D000000#32 0x3D800000#32 0x3DC00000#32 t
  | 1 => four 0x3E000000#32 0x3E200000#32 0x3E400000#32 0x3E600000#32 t
  | 2 => four 0x3E800000#32 0x3E900000#32 0x3EA00000#32 0x3EB00000#32 t
  | 3 => four 0x3EC00000#32 0x3ED00000#32 0x3EE00000#32 0x3EF00000#32 t
  | 4 => four 0x3F000000#32 0x3F080000#32 0x3F100000#32 0x3F180000#32 t
  | 5 => four 0x3F200000#32 0x3F280000#32 0x3F300000#32 0x3F380000#32 t
  | 6 => four 0x3F400000#32 0x3F480000#32 0x3F500000#32 0x3F580000#32 t
  | 7 => four 0x3F600000#32 0x3F680000#32 0x3F700000#32 0x3F780000#32 t

def place (c : Fin 8) (t : Fin 4) : BitVec 32 :=
  match c with
  | 0 => four 0#32 1#32 2#32 3#32 t
  | 1 => four 4#32 5#32 6#32 7#32 t
  | 2 => four 8#32 9#32 10#32 11#32 t
  | 3 => four 12#32 13#32 14#32 15#32 t
  | 4 => four 16#32 17#32 18#32 19#32 t
  | 5 => four 20#32 21#32 22#32 23#32 t
  | 6 => four 24#32 25#32 26#32 27#32 t
  | 7 => four 28#32 29#32 30#32 31#32 t

/-- What is added to a tile: its place's thirty-second part, and 4096 where the tile lies past the last document. -/
def shift (i : grid0.Coords) (c : Fin 8) (t : Fin 4) : F .f32 :=
  Scalar.addf (Scalar.select (Scalar.cmpi .sge (Scalar.muli (Scalar.addi (Scalar.muli (BitVec.ofNat 32 (i 0).val) 32#32) (place c t)) 128#32) 480000#32)
    (Scalar.ofBits .f32 0x45800000#32) (Scalar.ofBits .f32 0x00000000#32)) (Scalar.ofBits .f32 (part c t))

def slice (acc : FVec F S256x512 .f32) (t : Fin 4) : FVec F S256x128 .f32 :=
  match t with
  | 0 => extractStridedSlice S256x128 ![0, 0] acc slices_S256x512_o0_0_S256x128
  | 1 => extractStridedSlice S256x128 ![0, 128] acc slices_S256x512_o0_128_S256x128
  | 2 => extractStridedSlice S256x128 ![0, 256] acc slices_S256x512_o0_256_S256x128
  | 3 => extractStridedSlice S256x128 ![0, 384] acc slices_S256x512_o0_384_S256x128

def tile (i : grid0.Coords) (acc : FVec F S256x512 .f32) (c : Fin 8) (t : Fin 4) : FVec F S256x128 .f32 :=
  addf (slice acc t) (broadcast S256x128 (shift i c t))

/-- The three smallest of four tiles. -/
def best (i : grid0.Coords) (acc : FVec F S256x512 .f32) (c : Fin 8) : Three F where
  a := minimumf (minimumf (tile i acc c 0) (tile i acc c 1)) (minimumf (tile i acc c 2) (tile i acc c 3))
  b := minimumf (maximumf (minimumf (tile i acc c 0) (tile i acc c 1)) (minimumf (tile i acc c 2) (tile i acc c 3)))
    (minimumf (maximumf (tile i acc c 0) (tile i acc c 1)) (maximumf (tile i acc c 2) (tile i acc c 3)))
  c := maximumf (maximumf (minimumf (tile i acc c 0) (tile i acc c 1)) (minimumf (tile i acc c 2) (tile i acc c 3)))
    (minimumf (maximumf (tile i acc c 0) (tile i acc c 1)) (maximumf (tile i acc c 2) (tile i acc c 3)))

def same (x : FVec F S256x128 .f32) : FVec F S256x128 .f32 := shapeCast S256x128 x shapeCasts_S256x128_S256x128

def begun (x : Three F) : Three F := ⟨same x.a, same x.b, same x.c⟩

/-- The three smallest of two triples. -/
def merge (m t : Three F) : Three F where
  a := same (minimumf m.a t.a)
  b := same (minimumf (minimumf m.b t.b) (maximumf m.a t.a))
  c := same (minimumf (minimumf m.c t.c) (minimumf (maximumf m.b t.a) (maximumf m.a t.b)))

/-- The product of the queries and one chunk's documents. -/
def product (q : FVec F S256x768 .bf16) (d : FVec F S768x512 .bf16) : FVec F S256x512 .f32 :=
  matmul dot_S256x768_S768x512_S256x512_1_0_0_1_n_n none q d (constant S256x512 .f32 0x00000000#32)

/-- The three smallest of the tiles of the first `n + 1` chunks. -/
def top (i : grid0.Coords) (A : Fin 8 → FVec F S256x512 .f32) : Nat → Three F
  | 0 => begun (best i (A 0) 0)
  | n + 1 => merge (top i A n) (best i (A (Fin.ofNat 8 (n + 1))) (Fin.ofNat 8 (n + 1)))

section
variable (i : grid0.Coords) (arg1 : Memref sig .tc .vmem S256x768 .bf16) (arg2 : Memref sig .tc .vmem S24x4096 .i32) (arg8 : Memref sig .tc .vmem S256x768 .bf16)
  (arg9 : Memref sig .tc .vmem S768x512 .bf16) (arg10 : Memref sig .tc .vmem S768x512 .bf16)
  (arg11 : Memref sig .tc .vmem S256x128 .f32) (arg12 : Memref sig .tc .vmem S256x128 .f32) (arg13 : Memref sig .tc .vmem S256x128 .f32)
  (f1 : BufTy.Contents (Elt F) arg1.view.ty) (f2 : BufTy.Contents (Elt F) arg2.view.ty) (f8 : BufTy.Contents (Elt F) arg8.view.ty)

/-- What the body keeps after each chunk, as its run names it. -/
def kept (c : Fin 8) : Three F :=
  match c with
  | 0 => ⟨bodyRun.sl.v767 i arg1 arg2 arg8 arg9 arg11 f1 f2 f8, bodyRun.sl.v768 i arg1 arg2 arg8 arg9 arg12 f1 f2 f8, bodyRun.sl.v769 i arg1 arg2 arg8 arg9 arg13 f1 f2 f8⟩
  | 1 => ⟨bodyRun.sl.v1165 i arg1 arg2 arg8 arg9 arg10 arg11 f1 f2 f8, bodyRun.sl.v1166 i arg1 arg2 arg8 arg9 arg10 arg11 arg12 f1 f2 f8, bodyRun.sl.v1167 i arg1 arg2 arg8 arg9 arg10 arg11 arg12 arg13 f1 f2 f8⟩
  | 2 => ⟨bodyRun.sl.v1563 i arg1 arg2 arg8 arg9 arg10 arg11 f1 f2 f8, bodyRun.sl.v1564 i arg1 arg2 arg8 arg9 arg10 arg11 arg12 f1 f2 f8, bodyRun.sl.v1565 i arg1 arg2 arg8 arg9 arg10 arg11 arg12 arg13 f1 f2 f8⟩
  | 3 => ⟨bodyRun.sl.v1961 i arg1 arg2 arg8 arg9 arg10 arg11 f1 f2 f8, bodyRun.sl.v1962 i arg1 arg2 arg8 arg9 arg10 arg11 arg12 f1 f2 f8, bodyRun.sl.v1963 i arg1 arg2 arg8 arg9 arg10 arg11 arg12 arg13 f1 f2 f8⟩
  | 4 => ⟨bodyRun.sl.v2359 i arg1 arg2 arg8 arg9 arg10 arg11 f1 f2 f8, bodyRun.sl.v2360 i arg1 arg2 arg8 arg9 arg10 arg11 arg12 f1 f2 f8, bodyRun.sl.v2361 i arg1 arg2 arg8 arg9 arg10 arg11 arg12 arg13 f1 f2 f8⟩
  | 5 => ⟨bodyRun.sl.v2757 i arg1 arg2 arg8 arg9 arg10 arg11 f1 f2 f8, bodyRun.sl.v2758 i arg1 arg2 arg8 arg9 arg10 arg11 arg12 f1 f2 f8, bodyRun.sl.v2759 i arg1 arg2 arg8 arg9 arg10 arg11 arg12 arg13 f1 f2 f8⟩
  | 6 => ⟨bodyRun.sl.v3155 i arg1 arg2 arg8 arg9 arg10 arg11 f1 f2 f8, bodyRun.sl.v3156 i arg1 arg2 arg8 arg9 arg10 arg11 arg12 f1 f2 f8, bodyRun.sl.v3157 i arg1 arg2 arg8 arg9 arg10 arg11 arg12 arg13 f1 f2 f8⟩
  | 7 => ⟨bodyRun.sl.v3177 i arg1 arg2 arg8 arg9 arg10 arg11 f1 f2 f8, bodyRun.sl.v3195 i arg1 arg2 arg8 arg9 arg10 arg11 arg12 f1 f2 f8, bodyRun.sl.v3178 i arg1 arg2 arg8 arg9 arg10 arg11 arg12 arg13 f1 f2 f8⟩

def accs (c : Fin 8) : FVec F S256x512 .f32 :=
  match c with
  | 0 => product (bodyRun.sl.v333 i arg1 arg8 f1 f8) (bodyRun.sl.v334 i arg2 arg9 f2)
  | 1 => product (bodyRun.sl.v333 i arg1 arg8 f1 f8) (bodyRun.sl.v720 i arg2 arg10 f2)
  | 2 => product (bodyRun.sl.v333 i arg1 arg8 f1 f8) (bodyRun.sl.v1118 i arg2 arg9 f2)
  | 3 => product (bodyRun.sl.v333 i arg1 arg8 f1 f8) (bodyRun.sl.v1516 i arg2 arg10 f2)
  | 4 => product (bodyRun.sl.v333 i arg1 arg8 f1 f8) (bodyRun.sl.v1914 i arg2 arg9 f2)
  | 5 => product (bodyRun.sl.v333 i arg1 arg8 f1 f8) (bodyRun.sl.v2312 i arg2 arg10 f2)
  | 6 => product (bodyRun.sl.v333 i arg1 arg8 f1 f8) (bodyRun.sl.v2710 i arg2 arg9 f2)
  | 7 => product (bodyRun.sl.v333 i arg1 arg8 f1 f8) (bodyRun.sl.v3108 i arg2 arg10 f2)

theorem kept_0 : kept i arg1 arg2 arg8 arg9 arg10 arg11 arg12 arg13 f1 f2 f8 0 = begun (best i (accs i arg1 arg2 arg8 arg9 arg10 f1 f2 f8 0) 0) := by
  refine three_ext ?_ ?_ ?_ <;> dsimp only [kept]
  · unfold bodyRun.sl.v767 bodyRun.sl.H11_1; exact (View.readCov_cons_toLoadRect _ _ _ _).trans rfl
  · unfold bodyRun.sl.v768 bodyRun.sl.H12_1; exact (View.readCov_cons_toLoadRect _ _ _ _).trans rfl
  · unfold bodyRun.sl.v769 bodyRun.sl.H13_1; exact (View.readCov_cons_toLoadRect _ _ _ _).trans rfl
theorem kept_1 : kept i arg1 arg2 arg8 arg9 arg10 arg11 arg12 arg13 f1 f2 f8 1 = merge (kept i arg1 arg2 arg8 arg9 arg10 arg11 arg12 arg13 f1 f2 f8 0) (best i (accs i arg1 arg2 arg8 arg9 arg10 f1 f2 f8 1) 1) := by
  refine three_ext ?_ ?_ ?_ <;> dsimp only [kept]
  · unfold bodyRun.sl.v1165 bodyRun.sl.H11_2; exact (View.readCov_cons_toLoadRect _ _ _ _).trans rfl
  · unfold bodyRun.sl.v1166 bodyRun.sl.H12_2; exact (View.readCov_cons_toLoadRect _ _ _ _).trans rfl
  · unfold bodyRun.sl.v1167 bodyRun.sl.H13_2; exact (View.readCov_cons_toLoadRect _ _ _ _).trans rfl
theorem kept_2 : kept i arg1 arg2 arg8 arg9 arg10 arg11 arg12 arg13 f1 f2 f8 2 = merge (kept i arg1 arg2 arg8 arg9 arg10 arg11 arg12 arg13 f1 f2 f8 1) (best i (accs i arg1 arg2 arg8 arg9 arg10 f1 f2 f8 2) 2) := by
  refine three_ext ?_ ?_ ?_ <;> dsimp only [kept]
  · unfold bodyRun.sl.v1563 bodyRun.sl.H11_3; exact (View.readCov_cons_toLoadRect _ _ _ _).trans rfl
  · unfold bodyRun.sl.v1564 bodyRun.sl.H12_3; exact (View.readCov_cons_toLoadRect _ _ _ _).trans rfl
  · unfold bodyRun.sl.v1565 bodyRun.sl.H13_3; exact (View.readCov_cons_toLoadRect _ _ _ _).trans rfl
theorem kept_3 : kept i arg1 arg2 arg8 arg9 arg10 arg11 arg12 arg13 f1 f2 f8 3 = merge (kept i arg1 arg2 arg8 arg9 arg10 arg11 arg12 arg13 f1 f2 f8 2) (best i (accs i arg1 arg2 arg8 arg9 arg10 f1 f2 f8 3) 3) := by
  refine three_ext ?_ ?_ ?_ <;> dsimp only [kept]
  · unfold bodyRun.sl.v1961 bodyRun.sl.H11_4; exact (View.readCov_cons_toLoadRect _ _ _ _).trans rfl
  · unfold bodyRun.sl.v1962 bodyRun.sl.H12_4; exact (View.readCov_cons_toLoadRect _ _ _ _).trans rfl
  · unfold bodyRun.sl.v1963 bodyRun.sl.H13_4; exact (View.readCov_cons_toLoadRect _ _ _ _).trans rfl
theorem kept_4 : kept i arg1 arg2 arg8 arg9 arg10 arg11 arg12 arg13 f1 f2 f8 4 = merge (kept i arg1 arg2 arg8 arg9 arg10 arg11 arg12 arg13 f1 f2 f8 3) (best i (accs i arg1 arg2 arg8 arg9 arg10 f1 f2 f8 4) 4) := by
  refine three_ext ?_ ?_ ?_ <;> dsimp only [kept]
  · unfold bodyRun.sl.v2359 bodyRun.sl.H11_5; exact (View.readCov_cons_toLoadRect _ _ _ _).trans rfl
  · unfold bodyRun.sl.v2360 bodyRun.sl.H12_5; exact (View.readCov_cons_toLoadRect _ _ _ _).trans rfl
  · unfold bodyRun.sl.v2361 bodyRun.sl.H13_5; exact (View.readCov_cons_toLoadRect _ _ _ _).trans rfl
theorem kept_5 : kept i arg1 arg2 arg8 arg9 arg10 arg11 arg12 arg13 f1 f2 f8 5 = merge (kept i arg1 arg2 arg8 arg9 arg10 arg11 arg12 arg13 f1 f2 f8 4) (best i (accs i arg1 arg2 arg8 arg9 arg10 f1 f2 f8 5) 5) := by
  refine three_ext ?_ ?_ ?_ <;> dsimp only [kept]
  · unfold bodyRun.sl.v2757 bodyRun.sl.H11_6; exact (View.readCov_cons_toLoadRect _ _ _ _).trans rfl
  · unfold bodyRun.sl.v2758 bodyRun.sl.H12_6; exact (View.readCov_cons_toLoadRect _ _ _ _).trans rfl
  · unfold bodyRun.sl.v2759 bodyRun.sl.H13_6; exact (View.readCov_cons_toLoadRect _ _ _ _).trans rfl
theorem kept_6 : kept i arg1 arg2 arg8 arg9 arg10 arg11 arg12 arg13 f1 f2 f8 6 = merge (kept i arg1 arg2 arg8 arg9 arg10 arg11 arg12 arg13 f1 f2 f8 5) (best i (accs i arg1 arg2 arg8 arg9 arg10 f1 f2 f8 6) 6) := by
  refine three_ext ?_ ?_ ?_ <;> dsimp only [kept]
  · unfold bodyRun.sl.v3155 bodyRun.sl.H11_7; exact (View.readCov_cons_toLoadRect _ _ _ _).trans rfl
  · unfold bodyRun.sl.v3156 bodyRun.sl.H12_7; exact (View.readCov_cons_toLoadRect _ _ _ _).trans rfl
  · unfold bodyRun.sl.v3157 bodyRun.sl.H13_7; exact (View.readCov_cons_toLoadRect _ _ _ _).trans rfl
theorem kept_7 : kept i arg1 arg2 arg8 arg9 arg10 arg11 arg12 arg13 f1 f2 f8 7 = merge (kept i arg1 arg2 arg8 arg9 arg10 arg11 arg12 arg13 f1 f2 f8 6) (best i (accs i arg1 arg2 arg8 arg9 arg10 f1 f2 f8 7) 7) := by
  refine three_ext ?_ ?_ ?_ <;> dsimp only [kept]
  · unfold bodyRun.sl.v3177 bodyRun.sl.H11_8; exact (View.readCov_cons_toLoadRect _ _ _ _).trans rfl
  · unfold bodyRun.sl.v3195 bodyRun.sl.H12_8; exact (View.readCov_cons_toLoadRect _ _ _ _).trans rfl
  · unfold bodyRun.sl.v3178 bodyRun.sl.H13_8; exact (View.readCov_cons_toLoadRect _ _ _ _).trans rfl

theorem accs_eq (c : Fin 8) : accs i arg1 arg2 arg8 arg9 arg10 f1 f2 f8 c
    = product (bodyRun.sl.v333 i arg1 arg8 f1 f8) (operand (words i (arg2.view.read (Elt F) f2) c)) :=
  match c with
  | 0 => congrArg (product (bodyRun.sl.v333 i arg1 arg8 f1 f8)) (operand_0 i arg2 arg9 f2)
  | 1 => congrArg (product (bodyRun.sl.v333 i arg1 arg8 f1 f8)) (operand_1 i arg2 arg10 f2)
  | 2 => congrArg (product (bodyRun.sl.v333 i arg1 arg8 f1 f8)) (operand_2 i arg2 arg9 f2)
  | 3 => congrArg (product (bodyRun.sl.v333 i arg1 arg8 f1 f8)) (operand_3 i arg2 arg10 f2)
  | 4 => congrArg (product (bodyRun.sl.v333 i arg1 arg8 f1 f8)) (operand_4 i arg2 arg9 f2)
  | 5 => congrArg (product (bodyRun.sl.v333 i arg1 arg8 f1 f8)) (operand_5 i arg2 arg10 f2)
  | 6 => congrArg (product (bodyRun.sl.v333 i arg1 arg8 f1 f8)) (operand_6 i arg2 arg9 f2)
  | 7 => congrArg (product (bodyRun.sl.v333 i arg1 arg8 f1 f8)) (operand_7 i arg2 arg10 f2)

theorem kept_top : kept i arg1 arg2 arg8 arg9 arg10 arg11 arg12 arg13 f1 f2 f8 7
    = top i (fun c => product (bodyRun.sl.v333 i arg1 arg8 f1 f8) (operand (words i (arg2.view.read (Elt F) f2) c))) 7 := by
  rw [kept_7, kept_6, kept_5, kept_4, kept_3, kept_2, kept_1, kept_0]
  simp only [accs_eq]
  rfl

end

end Cert.KernelIdeal.Scan

end
-- ==== Proof.Values.lean ====
module

public import proofs.«01_k».proof.Proof.Tiles
public import proofs.«01_k».proof.Proof.Frame
public import Idealize.ShloMosaic.Lib.VecWindow

@[expose] public section

set_option maxRecDepth 16384

noncomputable section

/-! The body's run at a grid point with the contents named: what the buffers of the keys, the packed words, the bits, the
    widened queries, the operand and the counts hold after it. -/

namespace Cert.KernelIdeal.Scan

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- `a` at the first grid point, `b` at the others. -/
def pick {α : Type} (i : grid0.Coords) (a b : α) : α := if k0_cond1 i = 1#1 then a else b

/-- The operand, the counts of positive entries, the packed words, the bits and the widened queries the first grid point stores. -/
def opQ (X1 : S256x768.Idx → Elt F .bf16) : FVec F S256x768 .bf16 := k0_pay35 (k0_pay9 X1) (iota .tc S1x768 32 [1] iota_S1x768_d1_w32) k0_pay20 (Scalar.ofBits .f32 0x3F800000#32)
def popV (X1 : S256x768.Idx → Elt F .bf16) : FVec F S256x128 .f32 := k0_pay10 X1
def wordsV (X1 : S256x768.Idx → Elt F .bf16) : IVec S256x128 32 := k0_pay18 (F := F) (k0_pay14 bodyRun.sl.v3271 bodyRun.sl.v3272 k0_pay11 k0_pay12 k0_pay13) (k0_pay15 bodyRun.sl.v3271) (k0_pay16 (k0_pay9 X1)) k0_pay17
def bitsV (X1 : S256x768.Idx → Elt F .bf16) : IVec S256x24 32 := k0_pay19 (F := F) (k0_pay14 bodyRun.sl.v3271 bodyRun.sl.v3272 k0_pay11 k0_pay12 k0_pay13) (k0_pay15 bodyRun.sl.v3271) (k0_pay16 (k0_pay9 X1)) k0_pay17
def wideV (X1 : S256x768.Idx → Elt F .bf16) : FVec F S256x768 .f32 := k0_pay8 X1

/-- The three smallest tiles of a grid point, from the operand and the documents' words. -/
def three (i : grid0.Coords) (Q : FVec F S256x768 .bf16) (X2 : S24x4096.Idx → Elt F .i32) : Three F :=
  top i (fun c => product Q (operand (words i X2 c))) 7

/-- The block of packed words a grid point stores. -/
def keysV (i : grid0.Coords) (Q : FVec F S256x768 .bf16) (P : FVec F S256x128 .f32) (X2 : S24x4096.Idx → Elt F .i32) : IVec S32x1x8x128 32 :=
  k0_pay1060 P (three i Q X2).a (three i Q X2).c (three i Q X2).b

section
variable (c : Dev nD) (i : grid0.Coords) (arg1 : Memref sig .tc .vmem S256x768 .bf16) (harg1 : arg1.IsWhole) (arg2 : Memref sig .tc .vmem S24x4096 .i32) (harg2 : arg2.IsWhole) (arg3 : Memref sig .tc .vmem S32x1x8x128 .i32) (harg3 : arg3.IsWhole) (arg4 : Memref sig .tc .vmem S256x128 .i32) (harg4 : arg4.IsWhole) (arg5 : Memref sig .tc .vmem S256x128 .i32) (harg5 : arg5.IsWhole) (arg6 : Memref sig .tc .vmem S256x24 .i32) (harg6 : arg6.IsWhole) (arg7 : Memref sig .tc .vmem S256x768 .f32) (harg7 : arg7.IsWhole) (arg8 : Memref sig .tc .vmem S256x768 .bf16) (harg8 : arg8.IsWhole) (arg9 : Memref sig .tc .vmem S768x512 .bf16) (harg9 : arg9.IsWhole) (arg10 : Memref sig .tc .vmem S768x512 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S15x256x128 .f32) (harg15 : arg15.IsWhole)
variable (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)

local notation "ran" => (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15)

/-- A buffer written whole at the first grid point and left alone at the others. -/
theorem read_pick {sp : Space} {S : Shape} {e : EltTy} (a : Memref sig .tc sp S e) (f : BufTy.Contents (Elt F) a.view.ty)
    (X : S.Idx → Elt F e) {off : Fin S.rank → Nat} (inb : ∀ x, off x + S.size x ≤ S.size x) :
    a.view.read (Elt F) (if _ : k0_cond1 i = 1#1 then a.view.writes (Elt F) f [⟨Rect.unit off S.size inb, X⟩] else f)
      = pick i X (a.view.read (Elt F) f) := by
  unfold pick
  split
  · exact View.read_writes_full _ _ inb X []
  · rfl

theorem opQ_read : bodyRun.sl.v333 i arg1 arg8 f1 f8 = pick i (opQ (arg1.view.read (Elt F) f1)) (arg8.view.read (Elt F) f8) := by
  unfold bodyRun.sl.v333
  refine (View.readAt_full _ _ _).trans ?_
  refine (read_pick i arg8 f8 _ _).trans ?_
  unfold opQ bodyRun.sl.r
  rw [View.readAt_full]; rfl

theorem popV_read : bodyRun.sl.v3176 i arg1 arg14 f1 f14 = pick i (popV (arg1.view.read (Elt F) f1)) (arg14.view.read (Elt F) f14) := by
  unfold bodyRun.sl.v3176
  refine (View.readAt_full _ _ _).trans ?_
  refine (read_pick i arg14 f14 _ _).trans ?_
  unfold popV
  rw [View.readAt_full]

theorem ran_3 : arg3.view.read (Elt F) (ran).1.2.1
    = keysV i (pick i (opQ (arg1.view.read (Elt F) f1)) (arg8.view.read (Elt F) f8)) (pick i (popV (arg1.view.read (Elt F) f1)) (arg14.view.read (Elt F) f14)) (arg2.view.read (Elt F) f2) := by
  have h := kept_top i arg1 arg2 arg8 arg9 arg10 arg11 arg12 arg13 f1 f2 f8
  rw [opQ_read] at h
  dsimp only [bodyRun]
  unfold bodyRun.sl.H3_1
  refine (View.read_writes_full _ _ _ _ []).trans ?_
  unfold keysV three
  rw [← h, ← popV_read]
  rfl

theorem ran_5 : arg5.view.read (Elt F) (ran).1.2.2.1 = pick i (wordsV (arg1.view.read (Elt F) f1)) (arg5.view.read (Elt F) f5) := by
  dsimp only [bodyRun]
  refine (read_pick i arg5 f5 _ _).trans ?_
  unfold wordsV bodyRun.sl.r_1 bodyRun.sl.r
  rw [View.readAt_full]

theorem ran_6 : arg6.view.read (Elt F) (ran).1.2.2.2.1 = pick i (bitsV (arg1.view.read (Elt F) f1)) (arg6.view.read (Elt F) f6) := by
  dsimp only [bodyRun]
  refine (read_pick i arg6 f6 _ _).trans ?_
  unfold bitsV bodyRun.sl.r_1 bodyRun.sl.r
  rw [View.readAt_full]

theorem ran_7 : arg7.view.read (Elt F) (ran).1.2.2.2.2.1 = pick i (wideV (arg1.view.read (Elt F) f1)) (arg7.view.read (Elt F) f7) := by
  dsimp only [bodyRun]
  refine (read_pick i arg7 f7 _ _).trans ?_
  unfold wideV
  rw [View.readAt_full]

theorem ran_8 : arg8.view.read (Elt F) (ran).1.2.2.2.2.2.1 = pick i (opQ (arg1.view.read (Elt F) f1)) (arg8.view.read (Elt F) f8) := by
  dsimp only [bodyRun]
  refine (read_pick i arg8 f8 _ _).trans ?_
  unfold opQ bodyRun.sl.r
  rw [View.readAt_full]; rfl

theorem ran_14 : arg14.view.read (Elt F) (ran).1.2.2.2.2.2.2.1 = pick i (popV (arg1.view.read (Elt F) f1)) (arg14.view.read (Elt F) f14) := by
  dsimp only [bodyRun]
  refine (read_pick i arg14 f14 _ _).trans ?_
  unfold popV
  rw [View.readAt_full]

set_option maxHeartbeats 800000 in
/-- The whole body, the contents it leaves named: the keys, the packed words, the bits, the widened queries, the operand and the counts. -/
theorem body_exact (X1 : S256x768.Idx → Elt F .bf16) (X2 : S24x4096.Idx → Elt F .i32) (X5 : S256x128.Idx → Elt F .i32) (X6 : S256x24.Idx → Elt F .i32) (X7 : S256x768.Idx → Elt F .f32) (X8 : S256x768.Idx → Elt F .bf16) (X14 : S256x128.Idx → Elt F .f32) (K : PUnit → sProp 𝕄) :
    iprop(owns (c : Thread nD τ) arg1 fullShare X1 ∗ owns (c : Thread nD τ) arg2 fullShare X2 ∗ (∃ X, owns (c : Thread nD τ) arg3 fullShare X) ∗ (∃ X, owns (c : Thread nD τ) arg4 fullShare X) ∗ owns (c : Thread nD τ) arg5 fullShare X5 ∗ owns (c : Thread nD τ) arg6 fullShare X6 ∗ owns (c : Thread nD τ) arg7 fullShare X7 ∗ owns (c : Thread nD τ) arg8 fullShare X8 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ owns (c : Thread nD τ) arg14 fullShare X14 ∗ (∃ X, owns (c : Thread nD τ) arg15 fullShare X)
        ∗ (iprop(owns (c : Thread nD τ) arg1 fullShare X1 ∗ owns (c : Thread nD τ) arg2 fullShare X2 ∗ owns (c : Thread nD τ) arg3 fullShare (keysV i (pick i (opQ X1) X8) (pick i (popV X1) X14) X2) ∗ (∃ X, owns (c : Thread nD τ) arg4 fullShare X) ∗ owns (c : Thread nD τ) arg5 fullShare (pick i (wordsV X1) X5) ∗ owns (c : Thread nD τ) arg6 fullShare (pick i (bitsV X1) X6) ∗ owns (c : Thread nD τ) arg7 fullShare (pick i (wideV X1) X7) ∗ owns (c : Thread nD τ) arg8 fullShare (pick i (opQ X1) X8) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ owns (c : Thread nD τ) arg14 fullShare (pick i (popV X1) X14) ∗ (∃ X, owns (c : Thread nD τ) arg15 fullShare X)) -∗ K ⟨⟩))
      ⊢ wp frame (wpE (defs₀ (F := F)) Variants.none c none) Set.univ (cc0_hamming_scan i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f1, %e1, H1⟩, ⟨%f2, %e2, H2⟩, ⟨%Y3, %f3, %e3, H3⟩, ⟨%Y4, %f4, %e4, H4⟩, ⟨%f5, %e5, H5⟩, ⟨%f6, %e6, H6⟩, ⟨%f7, %e7, H7⟩, ⟨%f8, %e8, H8⟩, ⟨%Y9, %f9, %e9, H9⟩, ⟨%Y10, %f10, %e10, H10⟩, ⟨%Y11, %f11, %e11, H11⟩, ⟨%Y12, %f12, %e12, H12⟩, ⟨%Y13, %f13, %e13, H13⟩, ⟨%f14, %e14, H14⟩, ⟨%Y15, %f15, %e15, H15⟩, Hk⟩
  have r3 := ran_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15
  have r5 := ran_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15
  have r6 := ran_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15
  have r7 := ran_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15
  have r8 := ran_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15
  have r14 := ran_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15
  rw [e1] at r3 r5 r6 r7 r8 r14
  rw [e2, e8, e14] at r3
  rw [e5] at r5
  rw [e6] at r6
  rw [e7] at r7
  rw [e8] at r8
  rw [e14] at r14
  have key := fun g15 => Run.tail_any c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15 g15 K
  have hr := (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).2 K
  generalize (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1 = R at key hr r3 r5 r6 r7 r8 r14
  obtain ⟨R0, R3, R5, R6, R7, R8, R14, R15⟩ := R
  dsimp only at key hr r3 r5 r6 r7 r8 r14
  iapply hr
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, ⟨%g9, H9⟩, ⟨%g10, H10⟩, ⟨%g11, H11⟩, ⟨%g12, H12⟩, ⟨%g13, H13⟩, H14, H15⟩
  iapply (key R15)
  isplitl [H4]; · iexact H4
  isplitl [H15]; · iexact H15
  iintro ⟨⟨%g4, H4⟩, H15⟩
  iapply Hk
  isplitl [H1]
  · iexists f1; isplitr; · ipureintro; exact e1
    iexact H1
  isplitl [H2]
  · iexists f2; isplitr; · ipureintro; exact e2
    iexact H2
  isplitl [H3]
  · iexists R3; isplitr; · ipureintro; exact r3
    iexact H3
  isplitl [H4]
  · iapply (Run.owns_any c arg4 g4)
    iexact H4
  isplitl [H5]
  · iexists R5; isplitr; · ipureintro; exact r5
    iexact H5
  isplitl [H6]
  · iexists R6; isplitr; · ipureintro; exact r6
    iexact H6
  isplitl [H7]
  · iexists R7; isplitr; · ipureintro; exact r7
    iexact H7
  isplitl [H8]
  · iexists R8; isplitr; · ipureintro; exact r8
    iexact H8
  isplitl [H9]
  · iapply (Run.owns_any c arg9 g9)
    iexact H9
  isplitl [H10]
  · iapply (Run.owns_any c arg10 g10)
    iexact H10
  isplitl [H11]
  · iapply (Run.owns_any c arg11 g11)
    iexact H11
  isplitl [H12]
  · iapply (Run.owns_any c arg12 g12)
    iexact H12
  isplitl [H13]
  · iapply (Run.owns_any c arg13 g13)
    iexact H13
  isplitl [H14]
  · iexists R14; isplitr; · ipureintro; exact r14
    iexact H14
  iapply (Run.owns_any c arg15 R15)
  iexact H15

end

end Cert.KernelIdeal.Scan

end
-- ==== Proof.Num.lean ====
module

public import Idealize.ShloMosaic.Lib.WordSum
public import Idealize.ShloMosaic.Lib.Pointwise
public import Mathlib.Algebra.BigOperators.Fin

@[expose] public section

/-! The three smallest of a finite family of integers, told by how many members lie below each bound. -/

namespace Cert.Num

/-- `a`, `b`, `c` are the three smallest of a family of which `N x` members lie below `x`. -/
def Tri (N : ℤ → ℕ) (a b c : ℤ) : Prop := ∀ x, (x ≤ a ↔ N x = 0) ∧ (x ≤ b ↔ N x ≤ 1) ∧ (x ≤ c ↔ N x ≤ 2)

theorem Tri.merge {N N' : ℤ → ℕ} {a b c a' b' c' : ℤ} (h : Tri N a b c) (h' : Tri N' a' b' c') :
    Tri (fun x => N x + N' x) (min a a') (min (min b b') (max a a')) (min (min c c') (min (max b a') (max a b'))) := by
  intro x
  obtain ⟨h1, h2, h3⟩ := h x
  obtain ⟨k1, k2, k3⟩ := h' x
  simp only [le_min_iff, le_max_iff, h1, h2, h3, k1, k2, k3]
  omega

/-- One if the member lies below the bound. -/
def one (v x : ℤ) : ℕ := if v < x then 1 else 0

theorem one_cases (v x : ℤ) : (v < x ∧ one v x = 1) ∨ (x ≤ v ∧ one v x = 0) := by
  unfold one
  by_cases h : v < x
  · exact Or.inl ⟨h, if_pos h⟩
  · exact Or.inr ⟨by omega, if_neg h⟩

theorem Tri.four (p q r s : ℤ) :
    Tri (fun x => one p x + one q x + one r x + one s x) (min (min p q) (min r s))
      (min (max (min p q) (min r s)) (min (max p q) (max r s))) (max (max (min p q) (min r s)) (min (max p q) (max r s))) := by
  intro x
  simp only [le_min_iff, le_max_iff]
  have hp := one_cases p x
  have hq := one_cases q x
  have hr := one_cases r x
  have hs := one_cases s x
  omega

/-- A family with its smallest member taken out. -/
def rest (K : Fin 32 → ℤ) (m : ℤ) (p : Fin 32) : ℤ := if K p = m then 32767 else K p

def Apart (K : Fin 32 → ℤ) : Prop := ∀ p q, K p = K q → K p < 32767 → p = q

theorem rest_apart {K : Fin 32 → ℤ} (h : Apart K) (m : ℤ) : Apart (rest K m) := by
  intro p q
  unfold rest
  split_ifs <;> intro e l
  · omega
  · omega
  · omega
  · exact h p q e l

theorem count_zero (K : Fin 32 → ℤ) (x : ℤ) : (∑ p, one (K p) x = 0) ↔ ∀ p, x ≤ K p := by
  rw [Finset.sum_eq_zero_iff]
  simp only [Finset.mem_univ, true_implies]
  refine forall_congr' fun p => ?_
  have := one_cases (K p) x
  omega

theorem count_rest {K : Fin 32 → ℤ} (h : Apart K) {m : ℤ} (hm : ∀ p, m ≤ K p) (he : ∃ p, K p = m) {x : ℤ} (hx : x ≤ 32767) :
    ∑ p, one (rest K m p) x = ∑ p, one (K p) x - 1 := by
  obtain ⟨p0, hp0⟩ := he
  by_cases hmx : m < x
  · rw [← Finset.add_sum_erase Finset.univ (fun p => one (K p) x) (Finset.mem_univ p0),
      ← Finset.add_sum_erase Finset.univ (fun p => one (rest K m p) x) (Finset.mem_univ p0)]
    have e1 : one (rest K m p0) x = 0 := by unfold rest one; rw [if_pos hp0, if_neg (by omega)]
    have e2 : one (K p0) x = 1 := by unfold one; rw [if_pos (by omega)]
    have e3 : ∀ p ∈ Finset.univ.erase p0, one (rest K m p) x = one (K p) x := by
      intro p hp
      have hne : K p ≠ m := fun e => (Finset.ne_of_mem_erase hp) (h p p0 (e.trans hp0.symm) (by omega))
      unfold rest; rw [if_neg hne]
    rw [e1, e2, Finset.sum_congr rfl e3]; omega
  · have a : ∑ p, one (K p) x = 0 := (count_zero K x).2 fun p => le_trans (by omega) (hm p)
    have b : ∑ p, one (rest K m p) x = 0 := (count_zero _ x).2 fun p => by
      unfold rest; split_ifs
      · exact hx
      · exact le_trans (by omega) (hm p)
    rw [a, b]

/-- The smallest of a family, the smallest of the rest, and the smallest of the rest of that, in words of the counts. -/
theorem three_of_mins {K : Fin 32 → ℤ} (h : Apart K) {m1 m2 m3 : ℤ}
    (h1 : ∀ p, m1 ≤ K p) (e1 : ∃ p, K p = m1)
    (h2 : ∀ p, m2 ≤ rest K m1 p) (e2 : ∃ p, rest K m1 p = m2)
    (h3 : ∀ p, m3 ≤ rest (rest K m1) m2 p) (e3 : ∃ p, rest (rest K m1) m2 p = m3) {x : ℤ} (hx : x ≤ 32767) :
    (x ≤ m1 ↔ ∑ p, one (K p) x = 0) ∧ (x ≤ m2 ↔ ∑ p, one (K p) x ≤ 1) ∧ (x ≤ m3 ↔ ∑ p, one (K p) x ≤ 2) := by
  have key : ∀ (L : Fin 32 → ℤ) (m : ℤ), (∀ p, m ≤ L p) → (∃ p, L p = m) → (x ≤ m ↔ ∑ p, one (L p) x = 0) := by
    rintro L m hm ⟨p, hp⟩
    rw [count_zero]
    exact ⟨fun hxm q => hxm.trans (hm q), fun hq => hp ▸ hq p⟩
  have c1 := count_rest h h1 e1 hx
  have c2 := count_rest (rest_apart h m1) h2 e2 hx
  refine ⟨key _ _ h1 e1, ?_, ?_⟩
  · rw [key _ _ h2 e2]; omega
  · rw [key _ _ h3 e3]; omega

theorem same_of_le {u v : ℤ} (h : ∀ x, x ≤ 32736 → (x ≤ u ↔ x ≤ v)) (hv : ¬ 24608 ≤ v) : u = v := by
  have hu : ¬ 24608 ≤ u := fun k => hv ((h 24608 (by norm_num)).1 k)
  have a := (h u (by omega)).1 le_rfl
  have b := (h v (by omega)).2 le_rfl
  omega

/-- Two families alike below a bound, of which three members lie below it: the same three smallest. -/
theorem agree {N : ℤ → ℕ} {a b c : ℤ} (hT : Tri N a b c) (s : ℤ) {K : Fin 32 → ℤ} (h : Apart K)
    (hN : ∀ x, x ≤ 32736 → N (x - s) = ∑ p, one (K p) x) (hk : ∀ p, 0 ≤ K p) (hthree : 3 ≤ ∑ p, one (K p) 24608) {m1 m2 m3 : ℤ}
    (h1 : ∀ p, m1 ≤ K p) (e1 : ∃ p, K p = m1)
    (h2 : ∀ p, m2 ≤ rest K m1 p) (e2 : ∃ p, rest K m1 p = m2)
    (h3 : ∀ p, m3 ≤ rest (rest K m1) m2 p) (e3 : ∃ p, rest (rest K m1) m2 p = m3) :
    a + s = m1 ∧ b + s = m2 ∧ c + s = m3 ∧ 0 ≤ m1 ∧ m1 ≤ m2 ∧ m2 ≤ m3 ∧ m3 < 24608 := by
  have R := fun x (hx : x ≤ 32767) => three_of_mins h h1 e1 h2 e2 h3 e3 hx
  obtain ⟨r1, r2, r3⟩ := R 24608 (by norm_num)
  have n1 : ¬ 24608 ≤ m1 := fun k => by have := r1.1 k; omega
  have n2 : ¬ 24608 ≤ m2 := fun k => by have := r2.1 k; omega
  have n3 : ¬ 24608 ≤ m3 := fun k => by have := r3.1 k; omega
  have z := R 0 (by norm_num)
  have z0 : ∑ p, one (K p) 0 = 0 := (count_zero K 0).2 hk
  have s1 := R m1 (by omega)
  have s2 := R m2 (by omega)
  refine ⟨same_of_le (fun x hx => ?_) n1, same_of_le (fun x hx => ?_) n2, same_of_le (fun x hx => ?_) n3, z.1.2 z0, ?_, ?_, by omega⟩
  · rw [(R x (by omega)).1, ← hN x hx, ← (hT (x - s)).1]; omega
  · rw [(R x (by omega)).2.1, ← hN x hx, ← (hT (x - s)).2.1]; omega
  · rw [(R x (by omega)).2.2, ← hN x hx, ← (hT (x - s)).2.2]; omega
  · have := s1.1.1 le_rfl; exact s1.2.1.2 (by omega)
  · have := s2.2.1.1 le_rfl; exact s2.2.2.2 (by omega)

/-- Eight chunks of four tiles are thirty-two places. -/
theorem sum_places (f : Fin 32 → ℕ) :
    ∑ c : Fin 8, ∑ t : Fin 4, f ⟨4 * c.val + t.val, by omega⟩ = ∑ p, f p := by
  rw [← Fintype.sum_prod_type']
  refine Fintype.sum_equiv finProdFinEquiv _ _ fun ct => ?_
  congr 1
  apply Fin.ext
  show 4 * ct.1.val + ct.2.val = ct.2.val + 4 * ct.1.val
  omega

end Cert.Num

end
-- ==== Proof.Query.lean ====
module

public import proofs.«01_k».proof.Proof.Values
public import proofs.«01_k».proof.Proof.Num
public import Idealize.ShloMosaic.Lib.MatmulPlain
public import Idealize.ShloMosaic.Lib.BitWord

@[expose] public section

set_option maxRecDepth 16384

noncomputable section

/-! The queries read as extended reals: which entries are positive, how many, and the words their bits pack to. -/

namespace Cert.Num
open Idealize.ShloMosaic

theorem coe_sum {ι : Type} (S : Finset ι) (f : ι → ℝ) : ∑ x ∈ S, ((f x : ℝ) : EReal) = ((∑ x ∈ S, f x : ℝ) : EReal) := by
  induction S using Finset.cons_induction with
  | empty => simp
  | cons a S ha ih => rw [Finset.sum_cons, Finset.sum_cons, ih, EReal.coe_add]

/-- Conversion to an integer word of a real between an integer and the next. -/
theorem toWord {r : ℝ} {z : ℤ} (h0 : 0 ≤ z) (h1 : (z : ℝ) ≤ r) (h2 : r < (z : ℝ) + 1) (hz : z < 2147483648) :
    FloatOps.fptosi (F := Ideal) (φ := .f32) 32 ((r : ℝ) : EReal) = BitVec.ofInt 32 z := by
  have hr : (0 : ℝ) ≤ r := le_trans (by exact_mod_cast h0) h1
  have hf : ⌊r⌋ = z := Int.floor_eq_iff.2 ⟨h1, h2⟩
  show Ideal.fptosi 32 ((r : ℝ) : EReal) = _
  unfold Ideal.fptosi
  congr 1
  show max _ (min _ (if (0 : ℝ) ≤ r then ⌊r⌋ else ⌈r⌉)) = z
  rw [if_pos hr, hf]
  norm_num
  omega

theorem toWord_nat (n : ℕ) (h : n < 2147483648) :
    FloatOps.fptosi (F := Ideal) (φ := .f32) 32 (((n : ℝ) : ℝ) : EReal) = BitVec.ofNat 32 n := by
  rw [toWord (z := n) (by omega) (by norm_num) (by norm_num) (by omega)]
  rfl

theorem toNat_word (act : ℕ → Bool) : ∀ n, n ≤ 32 → (Bits.bitWord act n).toNat = ∑ k ∈ Finset.range n, (act k).toNat * 2 ^ k
  | 0, _ => rfl
  | n + 1, h => by
    have ih := toNat_word act n (by omega)
    have hlt := Bits.toNat_bitWord_lt act n (by omega)
    rw [Finset.sum_range_succ, ← ih]
    show (if act n = true then Bits.bitWord act n ||| BitVec.ofNat 32 (2 ^ n) else Bits.bitWord act n).toNat = _
    cases act n
    · simp
    · have hp : 2 ^ n % 2 ^ 32 = 2 ^ n := Nat.mod_eq_of_lt (Nat.pow_lt_pow_right (by norm_num) (by omega))
      rw [if_pos rfl, BitVec.toNat_or, BitVec.toNat_ofNat, hp, Nat.or_comm]
      have := Nat.two_pow_add_eq_or_of_lt hlt 1
      rw [mul_one] at this
      rw [← this]; simp [Nat.add_comm]

theorem word_split (act : ℕ → Bool) :
    Bits.bitWord act 32 = Bits.bitWord act 16 ||| (Bits.bitWord (fun k => act (16 + k)) 16 <<< 16) := by
  apply BitVec.eq_of_getLsbD_eq
  intro i hi
  rw [BitVec.getLsbD_or, BitVec.getLsbD_shiftLeft, Bits.getLsbD_bitWord _ _ (by omega), Bits.getLsbD_bitWord _ _ (by omega), Bits.getLsbD_bitWord _ _ (by omega)]
  by_cases h : i < 16
  · simp [h, hi]
  · have e : 16 + (i - 16) = i := by omega
    rw [e]; simp [h, hi]; intro; omega

/-- The entries of a row of which one group of sixteen is kept, each at its place's weight. -/
theorem sum_group (g : ℕ → ℕ) (hg : ∀ n, 768 ≤ n → g n = 0) (l o : ℕ) (hl : l < 128) (ho : o ≤ 16) :
    ∑ h : Fin 768, g h.val * (if h.val / 32 = l ∧ o ≤ h.val % 32 ∧ h.val % 32 < o + 16 then 2 ^ (h.val % 32 - o) else 0)
      = ∑ k ∈ Finset.range 16, g (32 * l + o + k) * 2 ^ k := by
  rw [Fin.sum_univ_eq_sum_range (fun h => g h * (if h / 32 = l ∧ o ≤ h % 32 ∧ h % 32 < o + 16 then 2 ^ (h % 32 - o) else 0)) 768,
    Finset.sum_subset (Finset.range_subset_range.2 (by norm_num : 768 ≤ 4096)) (fun x _ hx => by
      rw [hg x (by simpa using hx), zero_mul])]
  simp only [mul_ite, mul_zero]
  rw [← Finset.sum_filter]
  refine Finset.sum_nbij' (fun h => h % 32 - o) (fun k => 32 * l + o + k) ?_ ?_ ?_ ?_ ?_
  · intro a ha; simp only [Finset.mem_filter, Finset.mem_range] at *; omega
  · intro a ha; simp only [Finset.mem_filter, Finset.mem_range] at *; omega
  · intro a ha; simp only [Finset.mem_filter, Finset.mem_range] at *; omega
  · intro a ha; simp only [Finset.mem_filter, Finset.mem_range] at *; omega
  · intro a ha; simp only [Finset.mem_filter, Finset.mem_range] at *
    rw [show 32 * l + o + (a % 32 - o) = a by omega]

end Cert.Num

namespace Cert.KernelIdeal.Exact
open Cert.KernelIdeal Cert.KernelIdeal.Gen Cert.KernelIdeal.Body Cert.KernelIdeal.Scan
open Idealize.ShloMosaic Idealize.ShloMosaic.TcCoe Idealize.ShloMosaic.Tactic

/-- Whether entry `h` of query `q` is positive. -/
def up (X : FVec Ideal S256x768 .bf16) (q : Fin 256) (h : Fin 768) : Bool := decide (0 < X (ix2 q h))

/-- The same at any position, none being positive past the last. -/
def upN (X : FVec Ideal S256x768 .bf16) (q : Fin 256) (n : ℕ) : Bool := if h : n < 768 then up X q ⟨n, h⟩ else false

theorem upN_val (X : FVec Ideal S256x768 .bf16) (q : Fin 256) (h : Fin 768) : upN X q h.val = up X q h := dif_pos h.isLt

/-- Word `l` of the bits of query `q`. -/
def wordOf (X : FVec Ideal S256x768 .bf16) (q : Fin 256) (l : ℕ) : BitVec 32 := Bits.bitWord (fun k => upN X q (32 * l + k)) 32

theorem pay9_apply (X : FVec Ideal S256x768 .bf16) (q : Fin 256) (h : Fin 768) :
    k0_pay9 (F := Ideal) X (ix2 q h) = (((up X q h).toNat : ℝ) : EReal) := by
  pointwise [k0_pay9]
  unfold up
  show (((BitVec.setWidth 32 (BitVec.ofBool (decide (0 < X (ix2 q h))))).toInt : ℝ) : EReal) = _
  cases decide (0 < X (ix2 q h)) <;> simp

theorem pop_apply (X : FVec Ideal S256x768 .bf16) (q : Fin 256) (l : Fin 128) :
    popV (F := Ideal) X (ix2 q l) = ((∑ h, ((up X q h).toNat : ℝ) : ℝ) : EReal) := by
  unfold popV
  pointwise [k0_pay10]
  rw [← Num.coe_sum]
  exact Finset.sum_congr rfl fun h _ => pay9_apply X q h

theorem quot_word : ∀ h : Fin 768, Scalar.select
            (IntOp.andi
              (IntOp.cmpi CmpIPredicate.ne
                (IntOp.subi (BitVec.setWidth 32 (IntOp.cmpi CmpIPredicate.sgt (BitVec.ofNat 32 h.val) 0#32))
                  (BitVec.setWidth 32 (IntOp.cmpi CmpIPredicate.slt (BitVec.ofNat 32 h.val) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 h.val) 32#32) 0#32))
            (IntOp.subi (IntOp.divsi ArithUnit.vector (BitVec.ofNat 32 h.val) 32#32) 1#32)
            (IntOp.divsi ArithUnit.vector (BitVec.ofNat 32 h.val) 32#32) = BitVec.ofNat 32 (h.val / 32) := by decide +kernel

theorem power_word : ∀ h : Fin 768, IntOp.shli ArithUnit.vector (1#32)
          (Scalar.select
            (IntOp.andi
              (IntOp.xori
                (IntOp.cmpi CmpIPredicate.slt
                  (IntOp.remsi ArithUnit.vector (BitVec.ofNat 32 h.val)
                    (Scalar.select (Scalar.cmpi CmpIPredicate.eq 16#32 0#32) 1#32 16#32))
                  0#32)
                (Scalar.cmpi CmpIPredicate.slt (Scalar.select (Scalar.cmpi CmpIPredicate.eq 16#32 0#32) 1#32 16#32)
                  0#32))
              (IntOp.cmpi CmpIPredicate.ne
                (IntOp.remsi ArithUnit.vector (BitVec.ofNat 32 h.val)
                  (Scalar.select (Scalar.cmpi CmpIPredicate.eq 16#32 0#32) 1#32 16#32))
                0#32))
            (IntOp.addi
              (IntOp.remsi ArithUnit.vector (BitVec.ofNat 32 h.val)
                (Scalar.select (Scalar.cmpi CmpIPredicate.eq 16#32 0#32) 1#32 16#32))
              (Scalar.select (Scalar.cmpi CmpIPredicate.eq 16#32 0#32) 1#32 16#32))
            (IntOp.remsi ArithUnit.vector (BitVec.ofNat 32 h.val)
              (Scalar.select (Scalar.cmpi CmpIPredicate.eq 16#32 0#32) 1#32 16#32))) = BitVec.ofNat 32 (2 ^ (h.val % 16)) := by decide +kernel

theorem high_word : ∀ h : Fin 768, IntOp.cmpi CmpIPredicate.sge
      (Scalar.select
        (IntOp.andi
          (IntOp.xori
            (IntOp.cmpi CmpIPredicate.slt
              (IntOp.remsi ArithUnit.vector (BitVec.ofNat 32 h.val)
                (Scalar.select (Scalar.cmpi CmpIPredicate.eq 32#32 0#32) 1#32 32#32))
              0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 h.val)
              (Scalar.select (Scalar.cmpi CmpIPredicate.eq 32#32 0#32) 1#32 32#32))
            0#32))
        (IntOp.addi
          (IntOp.remsi ArithUnit.vector (BitVec.ofNat 32 h.val)
            (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 h.val)
          (Scalar.select (Scalar.cmpi CmpIPredicate.eq 32#32 0#32) 1#32 32#32)))
      16#32 =
    BitVec.ofBool (decide (16 ≤ h.val % 32)) := by decide +kernel

theorem power_int : ∀ k : Fin 16, (BitVec.ofNat 32 (2 ^ k.val)).toInt = ((2 ^ k.val : ℕ) : ℤ) := by decide +kernel

theorem weight_apply (h : Fin 768) (l : Fin 128) :
    k0_pay14 (F := Ideal) bodyRun.sl.v3271 bodyRun.sl.v3272 k0_pay11 k0_pay12 k0_pay13 (ix2 h l)
      = (((if h.val / 32 = l.val then 2 ^ (h.val % 16) else 0 : ℕ) : ℝ) : EReal) := by
  have e0 : bodyRun.sl.v3271 (ix2 h l) = BitVec.ofNat 32 h.val := by unfold bodyRun.sl.v3271; pointwise
  have e1 : bodyRun.sl.v3272 (ix2 h l) = BitVec.ofNat 32 l.val := by unfold bodyRun.sl.v3272; pointwise
  pointwise [k0_pay14, k0_pay11, k0_pay12, k0_pay13]
  rw [e0, e1, quot_word, power_word]
  have ec : IntOp.cmpi .eq (BitVec.ofNat 32 (h.val / 32)) (BitVec.ofNat 32 l.val) = BitVec.ofBool (decide (h.val / 32 = l.val)) := by
    have : (BitVec.ofNat 32 (h.val / 32) = BitVec.ofNat 32 l.val) ↔ h.val / 32 = l.val := by
      rw [← BitVec.toNat_inj, BitVec.toNat_ofNat, BitVec.toNat_ofNat]; omega
    by_cases hh : h.val / 32 = l.val
    · simp [IntOp.cmpi, hh]
    · have hb : (BitVec.ofNat 32 (h.val / 32) == BitVec.ofNat 32 l.val) = false := beq_eq_false_iff_ne.2 fun k => hh (this.1 k)
      simp [IntOp.cmpi, hh, hb]
  rw [ec]
  by_cases hh : h.val / 32 = l.val
  · rw [if_pos hh, decide_eq_true hh]
    show (((BitVec.ofNat 32 (2 ^ (h.val % 16))).toInt : ℝ) : EReal) = _
    rw [power_int ⟨h.val % 16, Nat.mod_lt _ (by norm_num)⟩]
    push_cast; rfl
  · rw [if_neg hh, decide_eq_false hh]
    show (((0#32 : BitVec 32).toInt : ℝ) : EReal) = _
    simp

theorem high_apply (h : Fin 768) (l : Fin 128) :
    k0_pay15 bodyRun.sl.v3271 (ix2 h l) = BitVec.ofBool (decide (16 ≤ h.val % 32)) := by
  have e0 : bodyRun.sl.v3271 (ix2 h l) = BitVec.ofNat 32 h.val := by unfold bodyRun.sl.v3271; pointwise
  pointwise [k0_pay15]
  rw [e0]
  exact high_word h

theorem bit16_apply (X : FVec Ideal S256x768 .bf16) (q : Fin 256) (h : Fin 768) :
    k0_pay16 (F := Ideal) (k0_pay9 X) (ix2 q h) = (((up X q h).toNat : ℝ) : EReal) := pay9_apply X q h

theorem zero_apply (h : Fin 768) (l : Fin 128) : k0_pay17 (F := Ideal) (ix2 h l) = 0 := by
  pointwise [k0_pay17]

/-- One product of the bits with the weights of half a word, as a natural number. -/
theorem half_sum (X : FVec Ideal S256x768 .bf16) (q : Fin 256) (l : Fin 128) (o : ℕ) (ho : o ≤ 16) (f : Fin 768 → EReal)
    (hf : ∀ x : Fin 768, f x = (((upN X q x.val).toNat * (if x.val / 32 = l.val ∧ o ≤ x.val % 32 ∧ x.val % 32 < o + 16 then 2 ^ (x.val % 32 - o) else 0) : ℕ) : ℝ)) :
    FloatOps.fptosi (F := Ideal) (φ := .f32) 32 (∑ x, f x) = Bits.bitWord (fun k => upN X q (32 * l.val + o + k)) 16 := by
  have e : ∑ x, f x = (((Bits.bitWord (fun k => upN X q (32 * l.val + o + k)) 16).toNat : ℝ) : EReal) := by
    rw [Finset.sum_congr rfl fun x _ => hf x, Num.coe_sum, ← Nat.cast_sum,
      Num.sum_group (fun n => (upN X q n).toNat) (fun n hn => by show (upN X q n).toNat = 0; rw [upN, dif_neg (by omega)]; rfl) l.val o l.isLt ho,
      Num.toNat_word _ 16 (by norm_num)]
  have hlt := Bits.toNat_bitWord_lt (fun k => upN X q (32 * l.val + o + k)) 16 (by norm_num)
  rw [e, Num.toWord_nat _ (by omega), BitVec.ofNat_toNat, BitVec.setWidth_eq]

theorem words_query (X : FVec Ideal S256x768 .bf16) (q : Fin 256) (l : Fin 128) :
    wordsV (F := Ideal) X (ix2 q l) = wordOf X q l.val := by
  unfold wordsV wordOf
  pointwise [k0_pay18]
  simp only [high_apply, weight_apply, bit16_apply, zero_apply]
  rw [half_sum X q l 0 (by norm_num) _ (fun x => ?_), half_sum X q l 16 (by norm_num) _ (fun x => ?_), Num.word_split]
  · rfl
  · have := x.isLt
    rw [upN_val]
    by_cases h1 : 16 ≤ x.val % 32
    · rw [decide_eq_true h1]
      by_cases h2 : x.val / 32 = l.val
      · rw [if_pos h2, if_pos ⟨h2, h1, by omega⟩, show x.val % 16 = x.val % 32 - 16 by omega]
        push_cast; rfl
      · rw [if_neg h2, if_neg (fun h : _ ∧ _ => h2 h.1)]
        show (((up X q x).toNat : ℝ) : EReal) * (((0 : ℕ) : ℝ) : EReal) = _
        simp
    · have hn : ¬ (x.val / 32 = l.val ∧ 16 ≤ x.val % 32 ∧ x.val % 32 < 16 + 16) := fun h => h1 h.2.1
      rw [decide_eq_false h1, if_neg hn]
      show (0 : EReal) = _
      simp
  · have := x.isLt
    rw [upN_val]
    by_cases h1 : 16 ≤ x.val % 32
    · have hn : ¬ (x.val / 32 = l.val ∧ 0 ≤ x.val % 32 ∧ x.val % 32 < 0 + 16) := by omega
      rw [decide_eq_true h1, if_neg hn]
      show (((up X q x).toNat : ℝ) : EReal) * 0 = _
      simp
    · rw [decide_eq_false h1]
      by_cases h2 : x.val / 32 = l.val
      · rw [if_pos h2, if_pos ⟨h2, by omega, by omega⟩, show x.val % 16 = x.val % 32 - 0 by omega]
        push_cast; rfl
      · rw [if_neg h2, if_neg (fun h : _ ∧ _ => h2 h.1)]
        show (((up X q x).toNat : ℝ) : EReal) * (((0 : ℕ) : ℝ) : EReal) = _
        simp

theorem bits_query (X : FVec Ideal S256x768 .bf16) (q : Fin 256) (l : Fin 24) :
    bitsV (F := Ideal) X (ix2 q l) = wordOf X q l.val := by
  have h := words_query X q ⟨l.val, by omega⟩
  unfold bitsV
  unfold wordsV at h
  pointwise [k0_pay19]
  exact h

theorem wide_query (X : FVec Ideal S256x768 .bf16) : wideV (F := Ideal) X = X := by
  funext j
  rw [eq_ix2 j]
  unfold wideV
  pointwise [k0_pay8]

end Cert.KernelIdeal.Exact

end
-- ==== Proof.Docs.lean ====
module

public import proofs.«01_k».proof.Proof.Query
public import Idealize.ShloMosaic.Lib.BitcastPair

@[expose] public section

set_option maxRecDepth 16384

noncomputable section

/-! The two operands of the distance product read as extended reals. -/

namespace Cert.KernelIdeal.Exact
open Cert.KernelIdeal Cert.KernelIdeal.Gen Cert.KernelIdeal.Body Cert.KernelIdeal.Scan
open Idealize.ShloMosaic Idealize.ShloMosaic.TcCoe Idealize.ShloMosaic.Tactic

/-- The channel that column `y` of the operands stands for. -/
def src (y : Fin 768) : Fin 768 :=
  ⟨(y.val / 256 * 8 + y.val / 2 % 8) * 32 + y.val % 2 * 16 + y.val / 16 % 16, by omega⟩

/-- The column that stands for a channel. -/
def dst (h : Fin 768) : Fin 768 := ⟨h.val / 256 * 256 + h.val % 16 * 16 + (h.val / 32 % 8 * 2 + h.val / 16 % 2), by omega⟩

theorem dst_src : ∀ y : Fin 768, dst (src y) = y := by decide +kernel
theorem src_dst : ∀ y : Fin 768, src (dst y) = y := by decide +kernel

def reorder : Fin 768 ≃ Fin 768 := ⟨src, dst, dst_src, src_dst⟩

theorem src_word : ∀ r : Fin 768, (IntOp.addi
        (IntOp.addi
          (IntOp.muli
            (IntOp.addi (IntOp.muli (IntOp.shrsi ArithUnit.vector (BitVec.ofNat 32 r.val) 8#32) 8#32)
              (IntOp.andi (IntOp.shrsi ArithUnit.vector (BitVec.ofNat 32 r.val) 1#32) 7#32))
            32#32)
          (IntOp.muli (IntOp.andi (BitVec.ofNat 32 r.val) 1#32) 16#32))
        (IntOp.andi (IntOp.shrsi ArithUnit.vector (BitVec.ofNat 32 r.val) 4#32) 15#32)) = BitVec.ofNat 32 (src r).val := by decide +kernel

theorem perm_apply (q r : Fin 768) : k0_pay20 (ix2 q r) = BitVec.ofBool (decide (q = src r)) := by
  pointwise [k0_pay20]
  rw [src_word]
  have : (BitVec.ofNat 32 q.val = BitVec.ofNat 32 (src r).val) ↔ q = src r := by
    rw [← BitVec.toNat_inj, BitVec.toNat_ofNat, BitVec.toNat_ofNat, Fin.ext_iff]
    have := q.isLt
    have := (src r).isLt
    omega
  by_cases hh : q = src r
  · rw [decide_eq_true hh, hh]; simp [IntOp.cmpi]
  · have hb : (BitVec.ofNat 32 q.val == BitVec.ofNat 32 (src r).val) = false := beq_eq_false_iff_ne.2 fun k => hh (this.1 k)
    simp [IntOp.cmpi, hh, hb]

/-- The exponent that pieces of the group of four `j` carry. -/
def power (j : ℕ) : ℤ := if j = 0 then 111 else if j = 1 then 95 else if j = 2 then 63 else -1

theorem group_word : ∀ r : Fin 768, IntOp.andi (IntOp.shrsi ArithUnit.vector (BitVec.ofNat 32 r.val) 4#32) 3#32 = BitVec.ofNat 32 (r.val / 16 % 4) := by decide +kernel

theorem bits_111 : Ideal.ofBits .f32 1996488704#32 = (((2 : ℝ) ^ (111 : ℤ) : ℝ) : EReal) := by
  simp [Ideal.ofBits, Ideal.ieee, -EReal.coe_mul, -EReal.coe_pow]; norm_num
theorem bits_95 : Ideal.ofBits .f32 1862270976#32 = (((2 : ℝ) ^ (95 : ℤ) : ℝ) : EReal) := by
  simp [Ideal.ofBits, Ideal.ieee, -EReal.coe_mul, -EReal.coe_pow]; norm_num
theorem bits_63 : Ideal.ofBits .f32 1593835520#32 = (((2 : ℝ) ^ (63 : ℤ) : ℝ) : EReal) := by
  simp [Ideal.ofBits, Ideal.ieee, -EReal.coe_mul, -EReal.coe_pow]; norm_num
theorem bits_half : Ideal.ofBits .f32 1056964608#32 = (((2 : ℝ) ^ (-1 : ℤ) : ℝ) : EReal) := by
  simp [Ideal.ofBits, Ideal.ieee, -EReal.coe_mul, -EReal.coe_pow]; norm_num
theorem bits_two : Ideal.ofBits .f32 1073741824#32 = ((2 : ℝ) : EReal) := by
  simp [Ideal.ofBits, Ideal.ieee, -EReal.coe_mul, -EReal.coe_pow]; norm_num
theorem bits_one : Ideal.ofBits .f32 1065353216#32 = ((1 : ℝ) : EReal) := by
  simp [Ideal.ofBits, Ideal.ieee, -EReal.coe_mul, -EReal.coe_pow]; norm_num

theorem sign_apply (X : FVec Ideal S256x768 .bf16) (q : Fin 256) (r : Fin 768) :
    (∑ x, Scalar.select (k0_pay20 (ix2 x r)) (1 - Ideal.ofBits FTy.f32 1073741824#32 * k0_pay9 (F := Ideal) X (ix2 q x)) 0 : EReal)
      = ((1 - 2 * ((up X q (src r)).toNat : ℝ) : ℝ) : EReal) := by
  rw [Finset.sum_eq_single (src r)]
  · rw [perm_apply, decide_eq_true rfl, pay9_apply, bits_two]
    show (1 : EReal) - _ = _
    rw [EReal.coe_sub, EReal.coe_mul]; rfl
  · intro x _ hx
    rw [perm_apply, decide_eq_false hx]; rfl
  · intro h; exact absurd (Finset.mem_univ _) h

theorem scale_apply (r : Fin 768) : Scalar.select
        (IntOp.cmpi CmpIPredicate.eq (IntOp.andi (IntOp.shrsi ArithUnit.vector (BitVec.ofNat 32 r.val) 4#32) 3#32) 0#32)
        (Ideal.ofBits FTy.f32 1996488704#32)
        (Scalar.select
          (IntOp.cmpi CmpIPredicate.eq (IntOp.andi (IntOp.shrsi ArithUnit.vector (BitVec.ofNat 32 r.val) 4#32) 3#32) 1#32)
          (Ideal.ofBits FTy.f32 1862270976#32)
          (Scalar.select
            (IntOp.cmpi CmpIPredicate.eq (IntOp.andi (IntOp.shrsi ArithUnit.vector (BitVec.ofNat 32 r.val) 4#32) 3#32)
              2#32)
            (Ideal.ofBits FTy.f32 1593835520#32) (Ideal.ofBits FTy.f32 1056964608#32)))
      = (((2 : ℝ) ^ power (r.val / 16 % 4) : ℝ) : EReal) := by
  rw [group_word, bits_111, bits_95, bits_63, bits_half]
  have h : r.val / 16 % 4 = 0 ∨ r.val / 16 % 4 = 1 ∨ r.val / 16 % 4 = 2 ∨ r.val / 16 % 4 = 3 := by omega
  rcases h with h | h | h | h <;> rw [h] <;> rfl

theorem opQ_apply (X : FVec Ideal S256x768 .bf16) (q : Fin 256) (r : Fin 768) :
    opQ (F := Ideal) X (ix2 q r) = (((1 - 2 * ((up X q (src r)).toNat : ℝ)) * (2 : ℝ) ^ power (r.val / 16 % 4) : ℝ) : EReal) := by
  unfold opQ
  pointwise [k0_pay35]
  rw [sign_apply, scale_apply, EReal.coe_mul]

theorem mask_bit : ∀ (a : Fin 4) (s : Fin 2) (i : Fin 16), (mask a.val).getLsbD (16 * s.val + i.val) = decide (i.val = 11 + a.val) := by decide +kernel

theorem moved_bit (w : IVec S8x512 32) (g a : Fin 4) (s : Fin 2) (z : S8x512.Idx) :
    (moved w g.val z).getLsbD (16 * s.val + (11 + a.val)) = (w z).getLsbD (16 * s.val + (4 * g.val + a.val)) := by
  have hs := s.isLt
  have ha := a.isLt
  fin_cases g
  · show ((w z) <<< (11#32 : BitVec 32)).getLsbD _ = _
    rw [BitVec.shiftLeft_eq', BitVec.getLsbD_shiftLeft]
    have : 16 * s.val + (11 + a.val) < 32 := by omega
    simp [this]; rw [show 16 * s.val + (11 + a.val) - 11 = 16 * s.val + a.val by omega, decide_eq_false (by omega)]; rfl
  · show ((w z) <<< (7#32 : BitVec 32)).getLsbD _ = _
    rw [BitVec.shiftLeft_eq', BitVec.getLsbD_shiftLeft]
    have : 16 * s.val + (11 + a.val) < 32 := by omega
    simp [this]; rw [show 16 * s.val + (11 + a.val) - 7 = 16 * s.val + (4 + a.val) by omega, decide_eq_false (by omega)]; rfl
  · show ((w z) <<< (3#32 : BitVec 32)).getLsbD _ = _
    rw [BitVec.shiftLeft_eq', BitVec.getLsbD_shiftLeft]
    have : 16 * s.val + (11 + a.val) < 32 := by omega
    simp [this]; rw [show 16 * s.val + (11 + a.val) - 3 = 16 * s.val + (8 + a.val) by omega, decide_eq_false (by omega)]; rfl
  · show ((w z) >>> (1#32 : BitVec 32)).getLsbD _ = _
    rw [BitVec.ushiftRight_eq', BitVec.getLsbD_ushiftRight]
    congr 1
    show 1 + _ = 16 * s.val + (4 * 3 + a.val)
    omega

/-- The half word a piece reads, as the pattern of a power of two or of zero. -/
theorem half_word (w : IVec S8x512 32) (j : Fin 16) (s : Fin 2) (z : S8x512.Idx) :
    BitVec.extractLsb' (16 * s.val) 16 (andi (moved w (j.val / 4)) (broadcast S8x512 (mask (j.val % 4))) z)
      = if (w z).getLsbD (16 * s.val + j.val) then 1#16 <<< (11 + j.val % 4) else 0#16 := by
  apply BitVec.eq_of_getLsbD_eq
  intro i hi
  show (BitVec.extractLsb' (16 * s.val) 16 (moved w (j.val / 4) z &&& mask (j.val % 4))).getLsbD i = _
  rw [BitVec.getLsbD_extractLsb', BitVec.getLsbD_and, mask_bit ⟨j.val % 4, by omega⟩ s ⟨i, hi⟩]
  have hm := moved_bit w ⟨j.val / 4, by omega⟩ ⟨j.val % 4, by omega⟩ s z
  dsimp only at hm ⊢
  rw [show 4 * (j.val / 4) + j.val % 4 = j.val by omega] at hm
  by_cases e : i = 11 + j.val % 4
  · subst e
    rw [hm]
    cases (w z).getLsbD (16 * s.val + j.val)
    · simp
    · rw [if_pos rfl, BitVec.getLsbD_shiftLeft]; simp [hi]
  · rw [decide_eq_false e]
    cases (w z).getLsbD (16 * s.val + j.val)
    · simp
    · rw [if_pos rfl, BitVec.getLsbD_shiftLeft]
      simp
      omega

theorem pattern (a : Fin 4) : Ideal.ofBits .bf16 (1#16 <<< (11 + a.val)) = (((2 : ℝ) ^ (- power a.val) : ℝ) : EReal) := by
  fin_cases a <;> simp [Ideal.ofBits, Ideal.ieee, power, -EReal.coe_mul, -EReal.coe_pow] <;> norm_num

theorem pattern_zero : Ideal.ofBits .bf16 0#16 = ((0 : ℝ) : EReal) := by
  simp [Ideal.ofBits, Ideal.ieee]

theorem piece_apply (w : IVec S8x512 32) (j : Fin 16) (r : Fin 16) (y : Fin 512) :
    Scan.piece (F := Ideal) w j.val (ix2 r y)
      = ((((if (w (ix2 (⟨r.val / 2, by omega⟩ : Fin 8) y)).getLsbD (16 * (r.val % 2) + j.val) then (2 : ℝ) ^ (- power (j.val % 4)) else 0) : ℝ)) : EReal) := by
  pointwise [Scan.piece]
  rw [bitcast_32_16]
  have er : S16x512.row (ix2 r y) = r.val := rfl
  have ez : ∀ h, (bitcasts_S8x512_w32_S16x512_w16.srcIdx (ix2 r y) (S16x512.row (ix2 r y) / 2) h) = ix2 (⟨r.val / 2, by omega⟩ : Fin 8) y := by
    intro h
    funext a
    apply Fin.ext
    match a with
    | ⟨0, _⟩ => exact (Shape.Bitcasts.srcIdx_row _ _ _ _ _ rfl).trans (by rw [er]; rfl)
    | ⟨1, _⟩ => exact (Shape.Bitcasts.srcIdx_other _ _ _ _ _ (show ¬ (1 + 2 = 2) by decide)).trans rfl
  rw [ez, er, half_word w j ⟨r.val % 2, by omega⟩]
  dsimp only
  split
  · exact pattern ⟨j.val % 4, by omega⟩
  · exact pattern_zero

/-- Bit `h` of a document whose words are `W`. -/
def bitOf (W : Fin 24 → BitVec 32) (h : Fin 768) : Bool := (W ⟨h.val / 32, by omega⟩).getLsbD (h.val % 32)

theorem operand_apply (ws : Fin 3 → IVec S8x512 32) (W : Fin 24 → BitVec 32) (l : Fin 512)
    (hw : ∀ (v : Fin 3) (s : Fin 8), ws v (ix2 s l) = W ⟨8 * v.val + s.val, by omega⟩) (y : Fin 768) :
    operand (F := Ideal) ws (ix2 y l) = (((bitOf W (src y)).toNat * (2 : ℝ) ^ (- power (y.val / 16 % 4)) : ℝ) : EReal) := by
  have hy := y.isLt
  have h := piece_apply (ws ⟨y.val / 256, by omega⟩) ⟨y.val / 16 % 16, by omega⟩ ⟨y.val % 16, by omega⟩ l
  rw [hw] at h
  refine Eq.trans ?_ (h.trans ?_)
  · rfl
  · unfold bitOf
    have e1 : (⟨8 * (y.val / 256) + y.val % 16 / 2, by omega⟩ : Fin 24) = ⟨(src y).val / 32, by have := (src y).isLt; omega⟩ :=
      Fin.ext (by show 8 * (y.val / 256) + y.val % 16 / 2 = (src y).val / 32; simp only [src]; omega)
    have e2 : 16 * (y.val % 16 % 2) + y.val / 16 % 16 = (src y).val % 32 := by simp only [src]; omega
    have e3 : y.val / 16 % 16 % 4 = y.val / 16 % 4 := by omega
    dsimp only
    rw [e1, e2, e3]
    cases (W ⟨(src y).val / 32, by have := (src y).isLt; omega⟩).getLsbD ((src y).val % 32)
    · simp
    · simp

/-- The distance product, as an integer. -/
def signed (X : FVec Ideal S256x768 .bf16) (W : Fin 24 → BitVec 32) (q : Fin 256) : ℤ :=
  ∑ h, (1 - 2 * ((up X q h).toNat : ℤ)) * ((bitOf W h).toNat : ℤ)

theorem product_value (X : FVec Ideal S256x768 .bf16) (ws : Fin 3 → IVec S8x512 32) (W : Fin 24 → BitVec 32) (q : Fin 256) (l : Fin 512)
    (hw : ∀ (v : Fin 3) (s : Fin 8), ws v (ix2 s l) = W ⟨8 * v.val + s.val, by omega⟩) :
    product (F := Ideal) (opQ X) (operand ws) (ix2 q l) = (((signed X W q : ℤ) : ℝ) : EReal) := by
  pointwise [product]
  have e : ∀ y : Fin 768, opQ (F := Ideal) X (ix2 q y) * operand (F := Ideal) ws (ix2 y l)
      = (((1 - 2 * ((up X q (src y)).toNat : ℝ)) * ((bitOf W (src y)).toNat : ℝ) : ℝ) : EReal) := by
    intro y
    rw [opQ_apply, operand_apply ws W l hw, ← EReal.coe_mul]
    congr 1
    rw [zpow_neg]
    have : (2 : ℝ) ^ power (y.val / 16 % 4) ≠ 0 := zpow_ne_zero _ (by norm_num)
    field_simp
  rw [Finset.sum_congr rfl fun y _ => e y, Num.coe_sum]
  congr 1
  rw [signed]
  push_cast
  exact Fintype.sum_equiv reorder _ _ fun y => rfl

/-- How many of the bits differ. -/
def apart (X : FVec Ideal S256x768 .bf16) (W : Fin 24 → BitVec 32) (q : Fin 256) : ℕ := ∑ h, (up X q h ^^ bitOf W h).toNat

theorem apart_le (X : FVec Ideal S256x768 .bf16) (W : Fin 24 → BitVec 32) (q : Fin 256) : apart X W q ≤ 768 := by
  refine (Finset.sum_le_card_nsmul Finset.univ _ 1 fun h _ => Bool.toNat_le _).trans (by simp)

def count (X : FVec Ideal S256x768 .bf16) (q : Fin 256) : ℤ := ∑ h, ((up X q h).toNat : ℤ)

theorem signed_count (X : FVec Ideal S256x768 .bf16) (W : Fin 24 → BitVec 32) (q : Fin 256) :
    signed X W q + count X q = apart X W q := by
  unfold signed count apart
  rw [← Finset.sum_add_distrib]
  push_cast
  refine Finset.sum_congr rfl fun h _ => ?_
  cases up X q h <;> cases bitOf W h <;> simp

theorem pop_value (X : FVec Ideal S256x768 .bf16) (q : Fin 256) (l : Fin 128) :
    popV (F := Ideal) X (ix2 q l) = (((count X q : ℤ) : ℝ) : EReal) := by
  rw [pop_apply, count]; push_cast; rfl

end Cert.KernelIdeal.Exact

end
-- ==== Proof.Least.lean ====
module

public import proofs.«01_k».proof.Proof.Docs

@[expose] public section

set_option maxRecDepth 16384

noncomputable section

/-! The three smallest tiles of a grid point, as integers over thirty-two. -/

namespace Cert.KernelIdeal.Exact
open Cert.KernelIdeal Cert.KernelIdeal.Gen Cert.KernelIdeal.Body Cert.KernelIdeal.Scan
open Idealize.ShloMosaic Idealize.ShloMosaic.TcCoe Idealize.ShloMosaic.Tactic

/-- An integer over thirty-two, as an extended real. -/
def e (z : ℤ) : EReal := (((z : ℝ) / 32 : ℝ) : EReal)

theorem e_mono : Monotone e := by
  intro a b h
  unfold e
  rw [EReal.coe_le_coe_iff]
  have : (a : ℝ) ≤ (b : ℝ) := by exact_mod_cast h
  linarith

theorem e_min (a b : ℤ) : min (e a) (e b) = e (min a b) := (e_mono.map_min).symm
theorem e_max (a b : ℤ) : max (e a) (e b) = e (max a b) := (e_mono.map_max).symm

section
variable (i : grid0.Coords) (A : Fin 8 → FVec Ideal S256x512 .f32) (T : Fin 8 → Fin 4 → ℤ) (y : S256x128.Idx)

theorem best_value (c : Fin 8) (hT : ∀ t, tile (F := Ideal) i (A c) c t y = e (T c t)) :
    (best i (A c) c).a y = e (min (min (T c 0) (T c 1)) (min (T c 2) (T c 3)))
    ∧ (best i (A c) c).b y = e (min (max (min (T c 0) (T c 1)) (min (T c 2) (T c 3))) (min (max (T c 0) (T c 1)) (max (T c 2) (T c 3))))
    ∧ (best i (A c) c).c y = e (max (max (min (T c 0) (T c 1)) (min (T c 2) (T c 3))) (min (max (T c 0) (T c 1)) (max (T c 2) (T c 3)))) := by
  refine ⟨?_, ?_, ?_⟩
  · show min (min (tile i (A c) c 0 y) (tile i (A c) c 1 y)) (min (tile i (A c) c 2 y) (tile i (A c) c 3 y)) = _
    simp only [hT, e_min, e_max]
  · show min (max (min (tile i (A c) c 0 y) (tile i (A c) c 1 y)) (min (tile i (A c) c 2 y) (tile i (A c) c 3 y)))
      (min (max (tile i (A c) c 0 y) (tile i (A c) c 1 y)) (max (tile i (A c) c 2 y) (tile i (A c) c 3 y))) = _
    simp only [hT, e_min, e_max]
  · show max (max (min (tile i (A c) c 0 y) (tile i (A c) c 1 y)) (min (tile i (A c) c 2 y) (tile i (A c) c 3 y)))
      (min (max (tile i (A c) c 0 y) (tile i (A c) c 1 y)) (max (tile i (A c) c 2 y) (tile i (A c) c 3 y))) = _
    simp only [hT, e_min, e_max]

theorem same_apply (x : FVec Ideal S256x128 .f32) : same (F := Ideal) x y = x y := by
  unfold same
  rw [shapeCast_self]

/-- How many of a chunk's tiles lie below a bound. -/
def below (c : Fin 8) (x : ℤ) : ℕ := Num.one (T c 0) x + Num.one (T c 1) x + Num.one (T c 2) x + Num.one (T c 3) x

theorem top_value (hT : ∀ c t, tile (F := Ideal) i (A c) c t y = e (T c t)) : ∀ n, n < 8 → ∃ a b c : ℤ,
    (top i A n).a y = e a ∧ (top i A n).b y = e b ∧ (top i A n).c y = e c
    ∧ Num.Tri (fun x => ∑ k ∈ Finset.range (n + 1), below T (Fin.ofNat 8 k) x) a b c
  | 0, _ => by
    obtain ⟨h1, h2, h3⟩ := best_value i A T y 0 (hT 0)
    refine ⟨_, _, _, (same_apply y _).trans h1, (same_apply y _).trans h2, (same_apply y _).trans h3, ?_⟩
    have := Num.Tri.four (T 0 0) (T 0 1) (T 0 2) (T 0 3)
    intro x
    have hx := this x
    simpa [below] using hx
  | n + 1, hn => by
    obtain ⟨a, b, c, h1, h2, h3, h4⟩ := top_value hT n (by omega)
    obtain ⟨k1, k2, k3⟩ := best_value i A T y (Fin.ofNat 8 (n + 1)) (hT _)
    have hm := h4.merge (Num.Tri.four (T (Fin.ofNat 8 (n + 1)) 0) (T (Fin.ofNat 8 (n + 1)) 1) (T (Fin.ofNat 8 (n + 1)) 2) (T (Fin.ofNat 8 (n + 1)) 3))
    have hf : (fun x => ∑ k ∈ Finset.range (n + 1 + 1), below T (Fin.ofNat 8 k) x)
        = fun x => ∑ k ∈ Finset.range (n + 1), below T (Fin.ofNat 8 k) x + below T (Fin.ofNat 8 (n + 1)) x := by
      funext x
      exact Finset.sum_range_succ _ _
    refine ⟨_, _, _, ?_, ?_, ?_, Eq.mpr (congrArg (fun f => Num.Tri f _ _ _) hf) hm⟩
    · refine (same_apply y (minimumf (top i A n).a (best i (A (Fin.ofNat 8 (n + 1))) (Fin.ofNat 8 (n + 1))).a)).trans ?_
      show min ((top i A n).a y) ((best i (A (Fin.ofNat 8 (n + 1))) (Fin.ofNat 8 (n + 1))).a y) = _
      rw [h1, k1, e_min]
    · refine (same_apply y (minimumf (minimumf (top i A n).b (best i (A (Fin.ofNat 8 (n + 1))) (Fin.ofNat 8 (n + 1))).b) (maximumf (top i A n).a (best i (A (Fin.ofNat 8 (n + 1))) (Fin.ofNat 8 (n + 1))).a))).trans ?_
      show min (min ((top i A n).b y) ((best i (A (Fin.ofNat 8 (n + 1))) (Fin.ofNat 8 (n + 1))).b y)) (max ((top i A n).a y) ((best i (A (Fin.ofNat 8 (n + 1))) (Fin.ofNat 8 (n + 1))).a y)) = _
      rw [h1, h2, k1, k2]; simp only [e_min, e_max]
    · refine (same_apply y (minimumf (minimumf (top i A n).c (best i (A (Fin.ofNat 8 (n + 1))) (Fin.ofNat 8 (n + 1))).c) (minimumf (maximumf (top i A n).b (best i (A (Fin.ofNat 8 (n + 1))) (Fin.ofNat 8 (n + 1))).a) (maximumf (top i A n).a (best i (A (Fin.ofNat 8 (n + 1))) (Fin.ofNat 8 (n + 1))).b)))).trans ?_
      show min (min ((top i A n).c y) ((best i (A (Fin.ofNat 8 (n + 1))) (Fin.ofNat 8 (n + 1))).c y)) (min (max ((top i A n).b y) ((best i (A (Fin.ofNat 8 (n + 1))) (Fin.ofNat 8 (n + 1))).a y)) (max ((top i A n).a y) ((best i (A (Fin.ofNat 8 (n + 1))) (Fin.ofNat 8 (n + 1))).b y))) = _
      rw [h1, h2, h3, k1, k2, k3]; simp only [e_min, e_max]

theorem below_sum (x : ℤ) : ∑ k ∈ Finset.range 8, below T (Fin.ofNat 8 k) x = ∑ c : Fin 8, ∑ t : Fin 4, Num.one (T c t) x := by
  rw [← Fin.sum_univ_eq_sum_range (fun k => below T (Fin.ofNat 8 k) x) 8]
  refine Finset.sum_congr rfl fun c _ => ?_
  have : Fin.ofNat 8 c.val = c := Fin.ext (Nat.mod_eq_of_lt c.isLt)
  rw [this, below, Fin.sum_univ_four]

end

/-- A tile's shift in thirty-seconds: its place, and past the last document 131072 more. -/
theorem part_value : ∀ (c : Fin 8) (t : Fin 4), Ideal.ofBits .f32 (part c t) = e (4 * c.val + t.val) := by
  intro c t
  fin_cases c <;> fin_cases t <;> simp [part, four, e, Ideal.ofBits, Ideal.ieee, -EReal.coe_mul, -EReal.coe_pow] <;> norm_num

theorem far_value : Ideal.ofBits .f32 0x45800000#32 = ((4096 : ℝ) : EReal) := by
  simp [Ideal.ofBits, Ideal.ieee, -EReal.coe_mul, -EReal.coe_pow]; norm_num

theorem beyond_iff : ∀ (b : Fin 118) (c : Fin 8) (t : Fin 4),
    Scalar.cmpi .sge (Scalar.muli (Scalar.addi (Scalar.muli (BitVec.ofNat 32 b.val) 32#32) (place c t)) 128#32) 480000#32
      = BitVec.ofBool (decide (3750 ≤ 32 * b.val + (4 * c.val + t.val))) := by decide +kernel

/-- Whether tile `t` of chunk `c` of grid point `b` lies past the last document, in thirty-seconds of 4096. -/
def off (b : Fin 118) (c : Fin 8) (t : Fin 4) : ℤ := if 3750 ≤ 32 * b.val + (4 * c.val + t.val) then 131072 else 0

theorem e_add (a b : ℤ) : e a + e b = e (a + b) := by
  unfold e
  rw [← EReal.coe_add]
  congr 1
  push_cast
  ring

theorem shift_value (i : grid0.Coords) (b : Fin 118) (hi : (i 0).val = b.val) (c : Fin 8) (t : Fin 4) :
    shift (F := Ideal) i c t = e (off b c t + (4 * c.val + t.val)) := by
  unfold shift
  rw [hi, beyond_iff b c t]
  show Scalar.select _ (Ideal.ofBits .f32 0x45800000#32) (Ideal.ofBits .f32 0x00000000#32) + Ideal.ofBits .f32 (part c t) = _
  rw [part_value, far_value, Ideal.ofBits_zero_f32, ← e_add (off b c t)]
  congr 1
  unfold off
  by_cases h : 3750 ≤ 32 * b.val + (4 * c.val + t.val)
  · rw [decide_eq_true h, if_pos h]
    show ((4096 : ℝ) : EReal) = e 131072
    unfold e; norm_num
  · rw [decide_eq_false h, if_neg h]
    show (0 : EReal) = e 0
    unfold e; norm_num

theorem slice_apply (acc : FVec Ideal S256x512 .f32) (t : Fin 4) (q : Fin 256) (l : Fin 128) :
    slice (F := Ideal) acc t (ix2 q l) = acc (ix2 q (⟨128 * t.val + l.val, by omega⟩ : Fin 512)) := by
  fin_cases t
  · show extractStridedSlice S256x128 ![0, 0] acc slices_S256x512_o0_0_S256x128 _ = _
    pointwise
  · show extractStridedSlice S256x128 ![0, 128] acc slices_S256x512_o0_128_S256x128 _ = _
    pointwise
  · show extractStridedSlice S256x128 ![0, 256] acc slices_S256x512_o0_256_S256x128 _ = _
    pointwise
  · show extractStridedSlice S256x128 ![0, 384] acc slices_S256x512_o0_384_S256x128 _ = _
    pointwise

theorem tile_value (i : grid0.Coords) (b : Fin 118) (hi : (i 0).val = b.val) (acc : FVec Ideal S256x512 .f32) (c : Fin 8) (t : Fin 4)
    (q : Fin 256) (l : Fin 128) (S : ℤ) (hS : acc (ix2 q (⟨128 * t.val + l.val, by omega⟩ : Fin 512)) = ((S : ℝ) : EReal)) :
    tile (F := Ideal) i acc c t (ix2 q l) = e (32 * S + (off b c t + (4 * c.val + t.val))) := by
  show slice (F := Ideal) acc t (ix2 q l) + shift (F := Ideal) i c t = _
  rw [slice_apply, hS, shift_value i b hi, ← e_add (32 * S)]
  congr 1
  unfold e
  congr 1
  push_cast
  ring

end Cert.KernelIdeal.Exact

end
-- ==== Proof.Plain.lean ====
module

public import proofs.«01_k».proof.Proof.Gen.ReferenceIdeal.Run
public import proofs.«01_k».proof.Proof.Docs

@[expose] public section

set_option maxRecDepth 16384

noncomputable section

/-! The reference read entry by entry: the packed bits, the distances and the keys. -/

namespace Cert.ReferenceIdeal.Exact
open Cert.ReferenceIdeal Cert.ReferenceIdeal.Gen
open Idealize.ShloMosaic Idealize.ShloMosaic.TcCoe Idealize.ShloMosaic.Tactic
open Cert.KernelIdeal.Exact (up upN wordOf upN_val apart apart_le bitOf)

/-- The bits packed into words. -/
def packed (X : FVec Ideal S256x768 .bf16) : IVec S256x24 32 :=
  Host.reduce IntOp.addi (Host.shli (shapeCast _ (extui 32 (cmpf .ogt X (broadcastInDim S256x768 ![] bcast_S_S256x768 (constant (F := Ideal) S_ .bf16 0x0000#16))) natLt_1_32) shapeCasts_S256x768_S256x24x32) (broadcastInDim S256x24x32 ![0, 1, 2] bcast_S1x1x32_S256x24x32_0_1_2 (broadcastInDim S1x1x32 ![2] bcast_S32_S1x1x32_2 (iotaInDim S32 32 0)))) (constantI S_ 32 0#32) reducesTo_S256x24x32_S256x24_d2 h_S_

/-- The distances. -/
def dist (P : IVec S256x24 32) (B : IVec S480000x24 32) : IVec S256x480000 32 :=
  Host.reduce IntOp.addi (ctpop (xori (broadcastInDim S256x480000x24 ![0, 1, 2] bcast_S256x1x24_S256x480000x24_0_1_2 (broadcastInDim S256x1x24 ![0, 2] bcast_S256x24_S256x1x24_0_2 P)) (broadcastInDim S256x480000x24 ![0, 1, 2] bcast_S1x480000x24_S256x480000x24_0_1_2 (broadcastInDim S1x480000x24 ![1, 2] bcast_S480000x24_S1x480000x24_1_2 B)))) (constantI S_ 32 0#32) reducesTo_S256x480000x24_S256x480000_d2 h_S_

/-- The keys: thirty-two times the distance, and the place in the group. -/
def key (D : IVec S256x480000 32) : IVec S256x118x32x128 32 :=
  addi (muli (shapeCast _ (pad S256x483328 ![0, 0] ![0, 3328] ![0, 0] (id D) (id (constantI S_ 32 1023#32)) pads_S256x480000_S256x483328_000_033280 h_S_) shapeCasts_S256x483328_S256x118x32x128) (broadcastInDim S256x118x32x128 ![] bcast_S_S256x118x32x128 (constantI S_ 32 32#32))) (broadcastInDim S256x118x32x128 ![0, 1, 2, 3] bcast_S1x1x32x1_S256x118x32x128_0_1_2_3 (broadcastInDim S1x1x32x1 ![2] bcast_S32_S1x1x32x1_2 (iotaInDim S32 32 0)))

def least (K : IVec S256x118x32x128 32) : IVec S256x118x128 32 :=
  Host.reduce IntOp.minsi K (constantI S_ 32 2147483647#32) reducesTo_S256x118x32x128_S256x118x128_d2 h_S_

def taken (K : IVec S256x118x32x128 32) (f : IVec S256x118x128 32) : IVec S256x118x32x128 32 :=
  select (cmpi .eq K (broadcastInDim S256x118x32x128 ![0, 1, 2, 3] bcast_S256x118x1x128_S256x118x32x128_0_1_2_3 (broadcastInDim S256x118x1x128 ![0, 1, 3] bcast_S256x118x128_S256x118x1x128_0_1_3 f))) (broadcastInDim S256x118x32x128 ![] bcast_S_S256x118x32x128 (id (constantI S_ 32 32767#32))) K

def answer (f s t : IVec S256x118x128 32) : IVec S32x118x8x128 32 :=
  transpose S32x118x8x128 [0, 2, 1, 3] (shapeCast _ (addi (addi (muli (subi f (broadcastInDim S256x118x128 ![] bcast_S_S256x118x128 (constantI S_ 32 16384#32))) (broadcastInDim S256x118x128 ![] bcast_S_S256x118x128 (constantI S_ 32 131072#32))) (muli s (broadcastInDim S256x118x128 ![] bcast_S_S256x118x128 (constantI S_ 32 4#32)))) (minsi (Host.shrui (subi t f) (broadcastInDim S256x118x128 ![] bcast_S_S256x118x128 (constantI S_ 32 8#32))) (broadcastInDim S256x118x128 ![] bcast_S_S256x118x128 (constantI S_ 32 3#32)))) shapeCasts_S256x118x128_S32x8x118x128) transposes_S32x8x118x128_S32x118x8x128_0_2_1_3

variable (m : (ℓ : Loc nD τ sig) → Buf (Elt Ideal) ℓ) (c : Dev nD)

def queriesR : FVec Ideal S256x768 .bf16 := shapeCast _ (m ((c.tc : Thread nD τ).loc main_arg0)) shapeCasts_S2x128x768_S256x768

def keysR : IVec S256x118x32x128 32 := key (dist (packed (queriesR m c)) (m ((c.tc : Thread nD τ).loc main_arg1)))

theorem result_keys : Value.res_main_v51 m c
    = answer (least (keysR m c)) (least (taken (keysR m c) (least (keysR m c))))
        (least (taken (taken (keysR m c) (least (keysR m c))) (least (taken (keysR m c) (least (keysR m c)))))) := by
  unfold Value.res_main_v51; rfl

theorem fold_addi {n : ℕ} (f : Fin n → BitVec 32) : Finset.fold IntOp.addi (0#32) f Finset.univ = ∑ x, f x := rfl

theorem shifted_off : ∀ x : Fin 32, IntOp.shli ArithUnit.host (BitVec.setWidth 32 (BitVec.ofBool false)) (BitVec.ofNat 32 x.val) = 0#32 := by decide +kernel
theorem shifted_on : ∀ x : Fin 32, (IntOp.shli ArithUnit.host (BitVec.setWidth 32 (BitVec.ofBool true)) (BitVec.ofNat 32 x.val)).toNat = 2 ^ x.val := by decide +kernel

theorem packed_apply (X : FVec Ideal S256x768 .bf16) (q : Fin 256) (w : Fin 24) : packed X (ix2 q w) = wordOf X q w.val := by
  pointwise [packed]
  have e : ∀ x : Fin 32, (IntOp.shli ArithUnit.host (BitVec.setWidth 32 (BitVec.ofBool (decide (0 < X (ix2 q (⟨w.val * 32 + x.val, by omega⟩ : Fin 768)))))) (BitVec.ofNat 32 x.val)).toNat
      = (upN X q (32 * w.val + x.val)).toNat * 2 ^ x.val := by
    intro x
    have hx : upN X q (32 * w.val + x.val) = decide (0 < X (ix2 q (⟨w.val * 32 + x.val, by omega⟩ : Fin 768))) := by
      rw [upN, dif_pos (by omega), up]
      simp only [Nat.mul_comm 32]
    rw [hx]
    cases decide (0 < X (ix2 q (⟨w.val * 32 + x.val, by omega⟩ : Fin 768)))
    · rw [shifted_off x]
      simp
    · rw [shifted_on x]
      simp
  have hs := Num.toNat_word (fun k => upN X q (32 * w.val + k)) 32 le_rfl
  rw [← Fin.sum_univ_eq_sum_range (fun k => (upN X q (32 * w.val + k)).toNat * 2 ^ k) 32] at hs
  have hlt := (Bits.bitWord (fun k => upN X q (32 * w.val + k)) 32).isLt
  apply BitVec.eq_of_toNat_eq
  rw [fold_addi, WordSum.toNat_sum]
  · exact (Finset.sum_congr rfl fun x _ => e x).trans hs.symm
  · exact lt_of_eq_of_lt ((Finset.sum_congr rfl fun x _ => e x).trans hs.symm) hlt

theorem ctpop_apart (a b : BitVec 32) : (IntOp.ctpop (IntOp.xori a b)).toNat = ∑ k : Fin 32, (a.getLsbD k.val ^^ b.getLsbD k.val).toNat := by
  rw [WordArith.toNat_ctpop, ← List.countP_eq_length_filter, Fin.sum_univ_eq_sum_range (fun k => (a.getLsbD k ^^ b.getLsbD k).toNat) 32]
  have : ∀ n, (List.countP (fun i => (IntOp.xori a b).getLsbD i) (List.range n)) = ∑ k ∈ Finset.range n, (a.getLsbD k ^^ b.getLsbD k).toNat := by
    intro n
    induction n with
    | zero => rfl
    | succ n ih =>
      rw [List.range_succ, List.countP_append, ih, Finset.sum_range_succ]
      congr 1
      show _ = _
      have : (IntOp.xori a b).getLsbD n = (a.getLsbD n ^^ b.getLsbD n) := BitVec.getLsbD_xor
      rw [List.countP_singleton, this]
      cases (a.getLsbD n ^^ b.getLsbD n) <;> rfl
  exact this 32

theorem dist_apply (X : FVec Ideal S256x768 .bf16) (B : IVec S480000x24 32) (q : Fin 256) (n : Fin 480000) :
    dist (packed X) B (ix2 q n) = BitVec.ofNat 32 (apart X (fun w => B (ix2 n w)) q) := by
  pointwise [dist]
  have e : ∑ w : Fin 24, (IntOp.ctpop (IntOp.xori (packed X (ix2 q w)) (B (ix2 n w)))).toNat = apart X (fun w => B (ix2 n w)) q := by
    unfold apart
    simp only [ctpop_apart, packed_apply]
    rw [← Fintype.sum_prod_type']
    refine Fintype.sum_equiv finProdFinEquiv _ _ fun wk => ?_
    obtain ⟨w, k⟩ := wk
    dsimp only
    have hv : (finProdFinEquiv (w, k) : Fin 768).val = k.val + 32 * w.val := rfl
    have e1 : (wordOf X q w.val).getLsbD k.val = up X q (finProdFinEquiv (w, k)) := by
      rw [wordOf, Bits.getLsbD_bitWord _ _ le_rfl, decide_eq_true k.isLt, ← upN_val, hv, Nat.add_comm]; rfl
    have e2 : (B (ix2 n w)).getLsbD k.val = bitOf (fun w => B (ix2 n w)) (finProdFinEquiv (w, k)) := by
      unfold bitOf
      have h1 : (⟨(finProdFinEquiv (w, k) : Fin 768).val / 32, by have := (finProdFinEquiv (w, k) : Fin 768).isLt; omega⟩ : Fin 24) = w := Fin.ext (by show _ / 32 = _; rw [hv]; omega)
      have h2 : (finProdFinEquiv (w, k) : Fin 768).val % 32 = k.val := by rw [hv]; omega
      rw [h1, h2]
    rw [e1, e2]
  have hle := apart_le X (fun w => B (ix2 n w)) q
  apply BitVec.eq_of_toNat_eq
  rw [fold_addi, WordSum.toNat_sum _ _ (by rw [e]; omega), e, BitVec.toNat_ofNat, Nat.mod_eq_of_lt (by omega)]

/-- The key of place `p` as an integer. -/
def keyOf (X : FVec Ideal S256x768 .bf16) (B : IVec S480000x24 32) (q : Fin 256) (b : Fin 118) (l : Fin 128) (p : Fin 32) : ℤ :=
  if h : b.val * 4096 + p.val * 128 + l.val < 480000 then 32 * apart X (fun w => B (ix2 (⟨b.val * 4096 + p.val * 128 + l.val, h⟩ : Fin 480000) w)) q + p.val else 32736 + p.val

theorem keyOf_bounds (X : FVec Ideal S256x768 .bf16) (B : IVec S480000x24 32) (q : Fin 256) (b : Fin 118) (l : Fin 128) (p : Fin 32) :
    0 ≤ keyOf X B q b l p ∧ keyOf X B q b l p ≤ 32767 := by
  unfold keyOf
  split
  · rename_i h
    have := apart_le X (fun w => B (ix2 (⟨b.val * 4096 + p.val * 128 + l.val, h⟩ : Fin 480000) w)) q
    omega
  · omega

theorem keyOf_apart (X : FVec Ideal S256x768 .bf16) (B : IVec S480000x24 32) (q : Fin 256) (b : Fin 118) (l : Fin 128) :
    Num.Apart (keyOf X B q b l) := by
  have hm : ∀ p, keyOf X B q b l p % 32 = p.val := by
    intro p
    unfold keyOf
    split <;> omega
  intro p p' h _
  have h1 := hm p
  have h2 := hm p'
  rw [h] at h1
  apply Fin.ext
  omega

theorem live_key (d p : ℕ) : IntOp.addi (IntOp.muli (BitVec.ofNat 32 d) 32#32) (BitVec.ofNat 32 p) = BitVec.ofInt 32 (32 * (d : ℤ) + (p : ℤ)) := by
  show BitVec.ofNat 32 d * BitVec.ofNat 32 32 + BitVec.ofNat 32 p = _
  rw [← BitVec.ofNat_mul, ← BitVec.ofNat_add, ← BitVec.ofInt_natCast, Nat.cast_add, Nat.cast_mul, mul_comm]
  rfl

theorem far_key (p : ℕ) : IntOp.addi (IntOp.muli 1023#32 32#32) (BitVec.ofNat 32 p) = BitVec.ofInt 32 (32736 + (p : ℤ)) := by
  show (BitVec.ofNat 32 32736 + BitVec.ofNat 32 p : BitVec 32) = _
  rw [← BitVec.ofNat_add, ← BitVec.ofInt_natCast, Nat.cast_add]
  rfl

theorem key_read (D : IVec S256x480000 32) (q : Fin 256) (b : Fin 118) (p : Fin 32) (l : Fin 128) :
    key D (ix4 q b p l) = if h : b.val * 4096 + p.val * 128 + l.val < 480000
      then IntOp.addi (IntOp.muli (D (ix2 q (⟨b.val * 4096 + p.val * 128 + l.val, h⟩ : Fin 480000))) 32#32) (BitVec.ofNat 32 p.val)
      else IntOp.addi (IntOp.muli 1023#32 32#32) (BitVec.ofNat 32 p.val) := by
  pointwise [key]
  split
  · rfl
  · rfl

theorem key_apply (X : FVec Ideal S256x768 .bf16) (B : IVec S480000x24 32) (q : Fin 256) (b : Fin 118) (p : Fin 32) (l : Fin 128) :
    key (dist (packed X) B) (ix4 q b p l) = BitVec.ofInt 32 (keyOf X B q b l p) := by
  rw [key_read]
  unfold keyOf
  split
  · rw [dist_apply]; exact live_key _ _
  · exact far_key _

theorem toInt_of {z : ℤ} (h0 : 0 ≤ z) (h1 : z ≤ 32767) : (BitVec.ofInt 32 z).toInt = z := by
  rw [BitVec.toInt_ofInt]
  exact Int.bmod_eq_of_le (by norm_num; omega) (by norm_num; omega)

theorem toInt_minsi (x y : BitVec 32) : (IntOp.minsi x y).toInt = min x.toInt y.toInt := by
  show (if x.slt y then x else y).toInt = _
  by_cases h : x.slt y
  · rw [if_pos h, min_eq_left]; rw [BitVec.slt_iff_toInt_lt] at h; omega
  · rw [if_neg h, min_eq_right]; rw [BitVec.slt_iff_toInt_lt] at h; omega

/-- The smallest of thirty-two words that hold small integers. -/
theorem fold_min (f : Fin 32 → BitVec 32) (K : Fin 32 → ℤ) (hf : ∀ p, f p = BitVec.ofInt 32 (K p)) (hK : ∀ p, 0 ≤ K p ∧ K p ≤ 32767) :
    ∃ m, Finset.fold IntOp.minsi (2147483647#32) f Finset.univ = BitVec.ofInt 32 m ∧ (∀ p, m ≤ K p) ∧ ∃ p, K p = m := by
  have hfold := Finset.fold_hom (op := IntOp.minsi (w := 32)) (op' := (min : ℤ → ℤ → ℤ)) (s := Finset.univ) (f := f) (b := 2147483647#32) (m := BitVec.toInt) toInt_minsi
  have hc : (fun p => (f p).toInt) = K := funext fun p => by rw [hf p, toInt_of (hK p).1 (hK p).2]
  rw [hc] at hfold
  refine ⟨Finset.fold min (2147483647#32 : BitVec 32).toInt K Finset.univ, ?_, ?_, ?_⟩
  · rw [hfold, BitVec.ofInt_toInt]
  · intro p
    exact (Finset.fold_min_le _).2 (Or.inr ⟨p, Finset.mem_univ p, le_rfl⟩)
  · have hle : ∀ p, Finset.fold min (2147483647#32 : BitVec 32).toInt K Finset.univ ≤ K p := fun p =>
      (Finset.fold_min_le _).2 (Or.inr ⟨p, Finset.mem_univ p, le_rfl⟩)
    rcases (Finset.fold_min_le (b := (2147483647#32 : BitVec 32).toInt) (s := Finset.univ) (f := K) _).1 le_rfl with h | ⟨p, _, hp⟩
    · have h0 := hle 0
      have h1 := (hK 0).2
      have : (2147483647#32 : BitVec 32).toInt = 2147483647 := by decide
      omega
    · exact ⟨p, le_antisymm hp (hle p)⟩

theorem least_apply (D : IVec S256x118x32x128 32) (q : Fin 256) (b : Fin 118) (l : Fin 128) :
    least D (ix3 q b l) = Finset.fold IntOp.minsi (2147483647#32) (fun x => D (ix4 q b x l)) Finset.univ := by
  pointwise [least]

theorem taken_apply (D : IVec S256x118x32x128 32) (f) (q : Fin 256) (b : Fin 118) (p : Fin 32) (l : Fin 128) {K : Fin 32 → ℤ} {m : ℤ}
    (hD : D (ix4 q b p l) = BitVec.ofInt 32 (K p)) (hf : f (ix3 q b l) = BitVec.ofInt 32 m) (hK : 0 ≤ K p ∧ K p ≤ 32767) (hm : 0 ≤ m ∧ m ≤ 32767) :
    taken D f (ix4 q b p l) = BitVec.ofInt 32 (Num.rest K m p) := by
  pointwise [taken]
  rw [hD, hf]
  unfold Num.rest
  by_cases h : K p = m
  · rw [if_pos h, h]
    have : IntOp.cmpi CmpIPredicate.eq (BitVec.ofInt 32 m) (BitVec.ofInt 32 m) = 1#1 := by simp [IntOp.cmpi]
    rw [this]; rfl
  · rw [if_neg h]
    have hb : (BitVec.ofInt 32 (K p) == BitVec.ofInt 32 m) = false := beq_eq_false_iff_ne.2 fun k => h (by
      have := congrArg BitVec.toInt k
      rwa [toInt_of hK.1 hK.2, toInt_of hm.1 hm.2] at this)
    have : IntOp.cmpi CmpIPredicate.eq (BitVec.ofInt 32 (K p)) (BitVec.ofInt 32 m) = 0#1 := by simp [IntOp.cmpi, hb]
    rw [this]; rfl

theorem rest_bounds {K : Fin 32 → ℤ} (hK : ∀ p, 0 ≤ K p ∧ K p ≤ 32767) (m : ℤ) : ∀ p, 0 ≤ Num.rest K m p ∧ Num.rest K m p ≤ 32767 := by
  intro p
  have := hK p
  unfold Num.rest
  split <;> omega

/-- The reference's word from three integers. -/
def pack (u v w : ℤ) : BitVec 32 :=
  IntOp.addi (IntOp.addi (IntOp.muli (IntOp.subi (BitVec.ofInt 32 u) 16384#32) 131072#32) (IntOp.muli (BitVec.ofInt 32 v) 4#32))
    (IntOp.minsi (IntOp.shrui ArithUnit.host (IntOp.subi (BitVec.ofInt 32 w) (BitVec.ofInt 32 u)) 8#32) 3#32)

/-- An entry of the reference's first result, in integers. -/
theorem keys_apply (r : Fin 32) (b : Fin 118) (s : Fin 8) (l : Fin 128) : ∃ m1 m2 m3 : ℤ,
    Value.res_main_v51 m c (ix4 r b s l) = pack m1 m2 m3 ∧
    (let K := keyOf (queriesR m c) (m ((c.tc : Thread nD τ).loc main_arg1)) ⟨r.val * 8 + s.val, by omega⟩ b l
     (∀ p, m1 ≤ K p) ∧ (∃ p, K p = m1) ∧ (∀ p, m2 ≤ Num.rest K m1 p) ∧ (∃ p, Num.rest K m1 p = m2)
      ∧ (∀ p, m3 ≤ Num.rest (Num.rest K m1) m2 p) ∧ ∃ p, Num.rest (Num.rest K m1) m2 p = m3) := by
  have hK := keyOf_bounds (queriesR m c) (m ((c.tc : Thread nD τ).loc main_arg1)) ⟨r.val * 8 + s.val, by omega⟩ b l
  have k1 : ∀ p, keysR m c (ix4 (⟨r.val * 8 + s.val, by omega⟩ : Fin 256) b p l) = BitVec.ofInt 32 (keyOf (queriesR m c) (m ((c.tc : Thread nD τ).loc main_arg1)) ⟨r.val * 8 + s.val, by omega⟩ b l p) := fun p => key_apply _ _ _ _ _ _
  generalize keyOf (queriesR m c) (m ((c.tc : Thread nD τ).loc main_arg1)) ⟨r.val * 8 + s.val, by omega⟩ b l = K at hK k1 ⊢
  obtain ⟨m1, f1, g1, p1, e1⟩ := fold_min _ K k1 hK
  rw [← least_apply] at f1
  have b1 := hK p1; rw [e1] at b1
  have k2 := fun p => taken_apply (keysR m c) (least (keysR m c)) _ b p l (k1 p) f1 (hK p) b1
  have hK2 := rest_bounds hK m1
  obtain ⟨m2, f2, g2, p2, e2⟩ := fold_min _ _ k2 hK2
  rw [← least_apply] at f2
  have b2 := hK2 p2; rw [e2] at b2
  have k3 := fun p => taken_apply (taken (keysR m c) (least (keysR m c))) (least (taken (keysR m c) (least (keysR m c)))) _ b p l (k2 p) f2 (hK2 p) b2
  have hK3 := rest_bounds hK2 m2
  obtain ⟨m3, f3, g3, p3, e3⟩ := fold_min _ _ k3 hK3
  rw [← least_apply] at f3
  refine ⟨m1, m2, m3, ?_, g1, ⟨p1, e1⟩, g2, ⟨p2, e2⟩, g3, ⟨p3, e3⟩⟩
  rw [result_keys]
  pointwise [answer]
  rw [f1, f2, f3]
  rfl

end Cert.ReferenceIdeal.Exact
end
-- ==== Proof.Exact.lean ====
module

public import proofs.«01_k».proof.Proof.Values
public import Idealize.ShloMosaic.Lib.Pipeline.TableIdle
public import Idealize.ShloMosaic.Lib.Pointwise

@[expose] public section

set_option maxRecDepth 16384

noncomputable section

/-! What the buffer holds past the last document does not reach the stored words. -/

namespace Cert.KernelIdeal.Exact

open Cert.KernelIdeal Cert.KernelIdeal.Gen Cert.KernelIdeal.Body Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ### The documents past the last -/

theorem iota_row (y : S8x512.Idx) : iota .tc S8x512 32 [1] iota_S8x512_d1_w32 y = BitVec.ofNat 32 (y 1).val := by
  show BitVec.ofNat 32 (0 * 512 + (y 1).val) = _
  rw [Nat.zero_mul, Nat.zero_add]

theorem live_iff (i : grid0.Coords) (c : Fin 8) (y : S8x512.Idx) :
    live i c y = 1#1 ↔ 4096 * (i 0).val + 512 * c.val + (y 1).val < 480000 := by
  have hi : (i 0).val < 118 := (i 0).isLt
  have hy : (y 1).val < 512 := (y 1).isLt
  have hc := c.isLt
  have e0 : live i c y = Scalar.cmpi .slt (BitVec.ofNat 32 (y 1).val) (Scalar.subi 480000#32 (Scalar.addi (Scalar.muli (BitVec.ofNat 32 (i 0).val) 4096#32) (colBits c))) := by
    unfold live
    rw [cmpi_apply, iota_row]
    rfl
  rw [e0, colBits_eq]
  generalize (i 0).val = I at hi ⊢
  generalize (y 1).val = Y at hy ⊢
  have e : (480000#32 - (BitVec.ofNat 32 I * 4096#32 + BitVec.ofNat 32 (512 * c.val))) = BitVec.ofInt 32 (480000 - (4096 * I + 512 * c.val : ℤ)) := by
    apply BitVec.eq_of_toNat_eq
    simp only [BitVec.toNat_sub, BitVec.toNat_add, BitVec.toNat_mul, BitVec.toNat_ofNat, BitVec.toNat_ofInt]
    omega
  show BitVec.ofBool (BitVec.slt (BitVec.ofNat 32 Y) (480000#32 - (BitVec.ofNat 32 I * 4096#32 + BitVec.ofNat 32 (512 * c.val)))) = 1#1 ↔ _
  rw [e, BitVec.slt_eq_decide, BitVec.toInt_ofInt, BitVec.toInt_ofNat']
  have h1 : (↑Y : ℤ).bmod (2 ^ 32) = Y := by apply Int.bmod_eq_of_le <;> omega
  have h2 : (480000 - (4096 * I + 512 * c.val : ℤ)).bmod (2 ^ 32) = 480000 - (4096 * I + 512 * c.val : ℤ) := by apply Int.bmod_eq_of_le <;> omega
  rw [h1, h2]
  by_cases h : 4096 * I + 512 * c.val + Y < 480000
  · rw [decide_eq_true (by omega)]; exact ⟨fun _ => h, fun _ => rfl⟩
  · rw [decide_eq_false (by omega)]; exact ⟨fun h' => absurd h' (by decide), fun h' => absurd h' h⟩

theorem block_1 (i : grid0.Coords) : cc0_transform_1 i 1 = (i 0).val := by
  have hi : (i 0).val < 118 := (i 0).isLt
  show (BitVec.ofNat 32 (i 0).val).toNat = _
  rw [BitVec.toNat_ofNat]; omega

/-- The words of a document that exists are moved. -/
theorem moved_live (i : grid0.Coords) (j : S24x4096.Idx) (h : 4096 * (i 0).val + (j 1).val < 480000) : win0_1.moved i j = true := by
  rw [win0_1.moved_iff]
  intro a
  have hi : (i 0).val < 118 := (i 0).isLt
  fin_cases a
  · show (j 0).val < (Pipeline.Clip.of (cc0_transform_1 i 0) 24 24).extent 24
    have h0 : cc0_transform_1 i 0 = 0 := rfl
    rw [h0]; exact (j 0).isLt
  · show (j 1).val < (Pipeline.Clip.of (cc0_transform_1 i 1) 4096 480000).extent 4096
    rw [block_1]
    unfold Pipeline.Clip.of
    have hj : (j 1).val < 4096 := (j 1).isLt
    split
    · exact hj
    · show (j 1).val < 480000 - (i 0).val * 4096
      omega

/-- A document that exists is read from the array, whatever the buffer held before. -/
theorem fill_live (i : grid0.Coords) (d d' : S24x4096.Idx → Elt F .i32) (g) (j : S24x4096.Idx)
    (h : 4096 * (i 0).val + (j 1).val < 480000) : win0_1.fill i d g j = win0_1.fill i d' g j := by
  have hm := moved_live i j h
  unfold Window.fill
  rw [dif_pos hm, dif_pos hm]

theorem cast_self (X : S8x512.Idx → BitVec 32) : shapeCast S8x512 X shapeCasts_S8x512_S8x512 = X := shapeCast_self ..

/-- Where a chunk's word sits in the block: word `8v + y₀` of document `512c + y₁`. -/
def at' (c : Fin 8) (v : Fin 3) (y : S8x512.Idx) : S24x4096.Idx :=
  ValueIdx.ix2 ⟨8 * v.val + (y 0).val, by have := (y 0).isLt; have : (y 0).val < 8 := this; have := v.isLt; omega⟩ ⟨512 * c.val + (y 1).val, by have : (y 1).val < 512 := (y 1).isLt; have := c.isLt; omega⟩

theorem words_apply (i : grid0.Coords) (X2 : S24x4096.Idx → Elt F .i32) (c : Fin 8) (v : Fin 3) (y : S8x512.Idx) :
    words i X2 c v y = if 4096 * (i 0).val + 512 * c.val + (y 1).val < 480000 then X2 (at' c v y) else 0#32 := by
  unfold words
  rw [ValueIdx.select_apply]
  unfold Scalar.select
  have h1 := live_iff i c y
  by_cases h : live i c y = 1
  · rw [if_pos h, if_pos (h1.mp h)]
    refine (congrFun (cast_self _) y).trans (congrArg X2 ?_)
    funext a
    fin_cases a
    · refine Fin.ext ?_
      show 8 * v.val + 1 * (y 0).val = 8 * v.val + (y 0).val
      rw [Nat.one_mul]
    · refine Fin.ext ?_
      show col c + 1 * (y 1).val = 512 * c.val + (y 1).val
      rw [col_eq, Nat.one_mul]
  · rw [if_neg h, if_neg (fun h' => h (h1.mpr h'))]; rfl

theorem words_fill (i : grid0.Coords) (d d' : S24x4096.Idx → Elt F .i32) (g) (c : Fin 8) (v : Fin 3) :
    words i (win0_1.fill i d g) c v = words i (win0_1.fill i d' g) c v := by
  funext y
  rw [words_apply, words_apply]
  split
  · rename_i h
    exact fill_live i d d' g _ (by show 4096 * (i 0).val + (512 * c.val + (y 1).val) < 480000; omega)
  · rfl

theorem three_fill (i : grid0.Coords) (Q) (d d' : S24x4096.Idx → Elt F .i32) (g) :
    three i Q (win0_1.fill i d g) = three (F := F) i Q (win0_1.fill i d' g) := by
  unfold three
  exact congrArg (fun A => top i A 7) (funext fun c => congrArg (fun w => product Q (operand w)) (funext fun v => words_fill i d d' g c v))

theorem keysV_fill (i : grid0.Coords) (Q P) (d d' : S24x4096.Idx → Elt F .i32) (g) :
    keysV i Q P (win0_1.fill i d g) = keysV (F := F) i Q P (win0_1.fill i d' g) := by
  unfold keysV; rw [three_fill i Q d d' g]

end Cert.KernelIdeal.Exact

end
-- ==== Proof.Keys.lean ====
module

public import proofs.«01_k».proof.Proof.Least
public import proofs.«01_k».proof.Proof.Plain
public import proofs.«01_k».proof.Proof.Exact

@[expose] public section

set_option maxRecDepth 16384

noncomputable section

/-! A word of the kernel's first result is the reference's. -/

namespace Cert.KernelIdeal.Exact
open Cert.KernelIdeal Cert.KernelIdeal.Gen Cert.KernelIdeal.Body Cert.KernelIdeal.Scan
open Idealize.ShloMosaic Idealize.ShloMosaic.TcCoe Idealize.ShloMosaic.Tactic
open Cert.ReferenceIdeal.Exact (keyOf keyOf_bounds keyOf_apart pack)

/-! ### The packed word -/

theorem least_three : ∀ k : Fin 97, IntOp.minsi (BitVec.ofNat 32 k.val) 3#32 = BitVec.ofNat 32 (min k.val 3) := by decide +kernel

theorem fields (x : BitVec 32) (v g : ℕ) (hv : v < 32768) (hg : g < 4) :
    (x <<< 17) ||| (BitVec.ofNat 32 v <<< 2) ||| BitVec.ofNat 32 g = x * 131072#32 + BitVec.ofNat 32 v * 4#32 + BitVec.ofNat 32 g := by
  apply BitVec.eq_of_toNat_eq
  rw [BitVec.or_assoc]
  have h1 : ((BitVec.ofNat 32 v <<< 2) ||| BitVec.ofNat 32 g : BitVec 32).toNat = v * 4 + g := by
    rw [BitVec.toNat_or, BitVec.toNat_shiftLeft, BitVec.toNat_ofNat, BitVec.toNat_ofNat, Nat.mod_eq_of_lt (show v < 2 ^ 32 by omega),
      Nat.mod_eq_of_lt (show g < 2 ^ 32 by omega), Nat.shiftLeft_eq, Nat.mod_eq_of_lt (show v * 2 ^ 2 < 2 ^ 32 by omega), ← Nat.shiftLeft_eq,
      ← Nat.shiftLeft_add_eq_or_of_lt (show g < 2 ^ 2 by omega), Nat.shiftLeft_eq]
  have h2 : (x <<< 17).toNat = (x.toNat % 32768) <<< 17 := by
    rw [BitVec.toNat_shiftLeft, Nat.shiftLeft_eq, Nat.shiftLeft_eq]
    omega
  rw [BitVec.toNat_or, h1, h2, ← Nat.shiftLeft_add_eq_or_of_lt (show v * 4 + g < 2 ^ 17 by omega), Nat.shiftLeft_eq]
  simp only [BitVec.toNat_add, BitVec.toNat_mul, BitVec.toNat_ofNat]
  omega

theorem word_pack {m1 m2 m3 : ℤ} (h0 : 0 ≤ m1) (h1 : m1 ≤ m2) (h2 : m2 ≤ m3) (h3 : m3 < 24608) :
    IntOp.ori (IntOp.ori (IntOp.shli .vector (IntOp.subi (BitVec.ofInt 32 m1) 16384#32) 17#32) (IntOp.shli .vector (BitVec.ofInt 32 m2) 2#32))
      (BitVec.ofInt 32 (min ((m3 - m1) / 256) 3)) = pack m1 m2 m3 := by
  obtain ⟨u, rfl⟩ := Int.eq_ofNat_of_zero_le h0
  obtain ⟨v, rfl⟩ := Int.eq_ofNat_of_zero_le (h0.trans h1)
  obtain ⟨w, rfl⟩ := Int.eq_ofNat_of_zero_le ((h0.trans h1).trans h2)
  have hg : IntOp.minsi (IntOp.shrui ArithUnit.host (IntOp.subi (BitVec.ofInt 32 (w : ℤ)) (BitVec.ofInt 32 (u : ℤ))) 8#32) 3#32 = BitVec.ofNat 32 (min ((w - u) / 256) 3) := by
    have e : IntOp.shrui ArithUnit.host (IntOp.subi (BitVec.ofInt 32 (w : ℤ)) (BitVec.ofInt 32 (u : ℤ))) 8#32 = BitVec.ofNat 32 ((w - u) / 256) := by
      show (BitVec.ofInt 32 (w : ℤ) - BitVec.ofInt 32 (u : ℤ)) >>> 8 = _
      apply BitVec.eq_of_toNat_eq
      rw [BitVec.toNat_ushiftRight, BitVec.toNat_sub, BitVec.ofInt_natCast, BitVec.ofInt_natCast, Nat.shiftRight_eq_div_pow]
      simp only [BitVec.toNat_ofNat]
      omega
    rw [e]
    exact least_three ⟨(w - u) / 256, by omega⟩
  have hm : (min (((w : ℤ) - (u : ℤ)) / 256) 3) = ((min ((w - u) / 256) 3 : ℕ) : ℤ) := by omega
  unfold pack
  rw [hg, hm, BitVec.ofInt_natCast (n := min ((w - u) / 256) 3), BitVec.ofInt_natCast (n := v)]
  exact fields _ v _ (by omega) (by omega)

theorem const_32 : Ideal.ofBits .f32 1107296256#32 = ((32 : ℝ) : EReal) := by
  simp [Ideal.ofBits, Ideal.ieee, -EReal.coe_mul, -EReal.coe_pow]; norm_num
theorem const_top : Ideal.ofBits .f32 1191181824#32 = ((32767 : ℝ) : EReal) := by
  simp [Ideal.ofBits, Ideal.ieee, -EReal.coe_mul, -EReal.coe_pow]; norm_num
theorem const_eighth : Ideal.ofBits .f32 1040187392#32 = ((1 / 8 : ℝ) : EReal) := by
  simp [Ideal.ofBits, Ideal.ieee, -EReal.coe_mul, -EReal.coe_pow]; norm_num
theorem const_three : Ideal.ofBits .f32 1077936128#32 = ((3 : ℝ) : EReal) := by
  simp [Ideal.ofBits, Ideal.ieee, -EReal.coe_mul, -EReal.coe_pow]; norm_num

theorem code_value (a s z : ℤ) (h : a + s = z) (h0 : 0 ≤ z) (h1 : z < 24608) :
    FloatOps.fptosi (F := Ideal) (φ := .f32) 32 (min ((e a + e s) * Ideal.ofBits .f32 1107296256#32) (Ideal.ofBits .f32 1191181824#32)) = BitVec.ofInt 32 z := by
  have e1 : min ((e a + e s) * Ideal.ofBits .f32 1107296256#32) (Ideal.ofBits .f32 1191181824#32) = (((z : ℝ) : ℝ) : EReal) := by
    rw [e_add, h, const_32, const_top]
    unfold e
    rw [← EReal.coe_mul, div_mul_cancel₀ _ (by norm_num : (32 : ℝ) ≠ 0)]
    refine min_eq_left ?_
    rw [EReal.coe_le_coe_iff]
    have : z ≤ 32767 := by omega
    exact_mod_cast this
  rw [e1]
  exact Num.toWord h0 (le_refl _) (lt_add_one _) (by omega)

theorem gap_value (a b s u w : ℤ) (ha : a + s = u) (hb : b + s = w) (h : u ≤ w) (h1 : w - u < 24608) :
    FloatOps.fptosi (F := Ideal) (φ := .f32) 32 (min ((e b - e a) * Ideal.ofBits .f32 1040187392#32) (Ideal.ofBits .f32 1077936128#32)) = BitVec.ofInt 32 (min ((w - u) / 256) 3) := by
  have e1 : min ((e b - e a) * Ideal.ofBits .f32 1040187392#32) (Ideal.ofBits .f32 1077936128#32) = ((min (((w - u : ℤ) : ℝ) / 256) 3 : ℝ) : EReal) := by
    rw [const_eighth, const_three]
    unfold e
    rw [← EReal.coe_sub, ← EReal.coe_mul]
    have hba : (b : ℝ) - a = ((w - u : ℤ) : ℝ) := by rw [← ha, ← hb]; push_cast; ring
    have : ((b : ℝ) / 32 - a / 32) * (1 / 8) = ((w - u : ℤ) : ℝ) / 256 := by rw [← hba]; ring
    rw [this]
    exact (EReal.coe_strictMono.monotone.map_min).symm
  rw [e1]
  generalize hd : w - u = d at h1
  have hd0 : 0 ≤ d := by omega
  have hq : 256 * (d / 256) + d % 256 = d := by omega
  have hr0 := Int.emod_nonneg d (by norm_num : (256 : ℤ) ≠ 0)
  have hr1 := Int.emod_lt_of_pos d (by norm_num : (0 : ℤ) < 256)
  have hdq : (d : ℝ) = 256 * ((d / 256 : ℤ) : ℝ) + ((d % 256 : ℤ) : ℝ) := by exact_mod_cast hq.symm
  have r0 : (0 : ℝ) ≤ ((d % 256 : ℤ) : ℝ) := by exact_mod_cast hr0
  have r1 : ((d % 256 : ℤ) : ℝ) < 256 := by exact_mod_cast hr1
  have hlo : ((d / 256 : ℤ) : ℝ) ≤ (d : ℝ) / 256 := by rw [hdq]; linarith
  have hhi : (d : ℝ) / 256 < ((d / 256 : ℤ) : ℝ) + 1 := by rw [hdq]; linarith
  refine Num.toWord (by omega) ?_ ?_ (by omega)
  · rw [Int.cast_min]
    exact min_le_min hlo (by norm_num)
  · rw [Int.cast_min]
    rcases le_total ((d / 256 : ℤ) : ℝ) ((3 : ℤ) : ℝ) with k | k
    · rw [min_eq_left k]; exact lt_of_le_of_lt (min_le_left _ _) hhi
    · rw [min_eq_right k]; exact lt_of_le_of_lt (min_le_right _ _) (by norm_num)

/-! ### The groups -/

/-- The three smallest of a grid point's tiles are the three smallest of the thirty-two members their entries stand for. -/
theorem top_places (i : grid0.Coords) (A : Fin 8 → FVec Ideal S256x512 .f32) (G : Fin 32 → ℤ) (y : S256x128.Idx)
    (hT : ∀ (c : Fin 8) (t : Fin 4), tile (F := Ideal) i (A c) c t y = e (G ⟨4 * c.val + t.val, by omega⟩)) : ∃ a d f : ℤ,
    (top i A 7).a y = e a ∧ (top i A 7).b y = e d ∧ (top i A 7).c y = e f ∧ Num.Tri (fun x => ∑ p, Num.one (G p) x) a d f := by
  obtain ⟨a, d, f, h1, h2, h3, h4⟩ := top_value i A (fun c t => G ⟨4 * c.val + t.val, by omega⟩) y hT 7 (by norm_num)
  refine ⟨a, d, f, h1, h2, h3, ?_⟩
  have hs : (fun x => ∑ k ∈ Finset.range (7 + 1), below (fun c t => G ⟨4 * c.val + t.val, by omega⟩) (Fin.ofNat 8 k) x)
      = fun x => ∑ p, Num.one (G p) x := by
    funext x
    exact (below_sum _ x).trans (Num.sum_places fun p => Num.one (G p) x)
  rw [hs] at h4
  exact h4

section
variable (X : FVec Ideal S256x768 .bf16) (B : IVec Cert.ReferenceIdeal.S480000x24 32) (b : Fin 118)

/-- The words of the document at place `p` of the group at lane `l`; zero past the last document. -/
def docW (l : Fin 128) (p : Fin 32) (w : Fin 24) : BitVec 32 :=
  if h : b.val * 4096 + p.val * 128 + l.val < 480000 then B (ix2 (⟨b.val * 4096 + p.val * 128 + l.val, h⟩ : Fin 480000) w) else 0#32

def group (q : Fin 256) (l : Fin 128) (p : Fin 32) : ℤ :=
  32 * signed X (docW B b l p) q + ((if 3750 ≤ 32 * b.val + p.val then 131072 else 0) + p.val)

theorem group_one (q : Fin 256) (l : Fin 128) (p : Fin 32) (x : ℤ) (hx : x ≤ 32736) :
    Num.one (group X B b q l p) (x - 32 * count X q) = Num.one (keyOf X B q b l p) x := by
  have hs := signed_count X (docW B b l p) q
  have hl := l.isLt
  unfold Num.one group
  refine if_congr ?_ rfl rfl
  unfold keyOf
  by_cases h : b.val * 4096 + p.val * 128 + l.val < 480000
  · rw [if_neg (by omega), dif_pos h]
    have hd : docW B b l p = fun w => B (ix2 (⟨b.val * 4096 + p.val * 128 + l.val, h⟩ : Fin 480000) w) := by
      funext w; unfold docW; rw [dif_pos h]
    rw [← hd]
    omega
  · rw [if_pos (by omega), dif_neg h]
    omega

theorem first_three (q : Fin 256) (l : Fin 128) : 3 ≤ ∑ p, Num.one (keyOf X B q b l p) 24608 := by
  have hb := b.isLt
  have hl := l.isLt
  have key : ∀ p : Fin 32, p.val < 3 → Num.one (keyOf X B q b l p) 24608 = 1 := by
    intro p hp
    unfold Num.one
    refine if_pos ?_
    unfold keyOf
    rw [dif_pos (by omega)]
    have := apart_le X (fun w => B (ix2 (⟨b.val * 4096 + p.val * 128 + l.val, by omega⟩ : Fin 480000) w)) q
    omega
  calc 3 = ∑ p ∈ ({0, 1, 2} : Finset (Fin 32)), Num.one (keyOf X B q b l p) 24608 := by
        rw [Finset.sum_congr rfl (g := fun _ => 1) (fun p hp => key p (by simp at hp; rcases hp with rfl | rfl | rfl <;> decide))]; rfl
    _ ≤ _ := Finset.sum_le_sum_of_subset (Finset.subset_univ _)

variable (i : grid0.Coords) (hi : (i 0).val = b.val) (X2 : S24x4096.Idx → Elt Ideal .i32)
  (hX : ∀ (w : Fin 24) (y : Fin 4096) (h : b.val * 4096 + y.val < 480000), X2 (ix2 w y) = B (ix2 (⟨b.val * 4096 + y.val, h⟩ : Fin 480000) w))
include hi hX

theorem doc_words (c : Fin 8) (t : Fin 4) (l : Fin 128) (v : Fin 3) (s : Fin 8) :
    words (F := Ideal) i X2 c v (ix2 s (⟨128 * t.val + l.val, by omega⟩ : Fin 512)) = docW B b l ⟨4 * c.val + t.val, by omega⟩ ⟨8 * v.val + s.val, by omega⟩ := by
  rw [words_apply, hi]
  unfold docW
  show (if 4096 * b.val + 512 * c.val + (128 * t.val + l.val) < 480000 then X2 (ix2 ⟨8 * v.val + s.val, _⟩ ⟨512 * c.val + (128 * t.val + l.val), _⟩) else 0#32) = _
  by_cases h : b.val * 4096 + (4 * c.val + t.val) * 128 + l.val < 480000
  · rw [if_pos (by omega), dif_pos h, hX _ _ (by show b.val * 4096 + (512 * c.val + (128 * t.val + l.val)) < 480000; omega)]
    refine congrArg (fun z => B (ix2 z _)) (Fin.ext ?_)
    show b.val * 4096 + (512 * c.val + (128 * t.val + l.val)) = b.val * 4096 + (4 * c.val + t.val) * 128 + l.val
    omega
  · rw [if_neg (by omega), dif_neg h]

theorem tile_group (q : Fin 256) (l : Fin 128) (c : Fin 8) (t : Fin 4) :
    tile (F := Ideal) i (product (opQ (F := Ideal) X) (operand (words i X2 c))) c t (ix2 q l) = e (group X B b q l ⟨4 * c.val + t.val, by omega⟩) := by
  have h := product_value X (words i X2 c) (docW B b l ⟨4 * c.val + t.val, by omega⟩) q ⟨128 * t.val + l.val, by omega⟩
    (fun v s => doc_words B b i hi X2 hX c t l v s)
  generalize product (opQ (F := Ideal) X) (operand (words i X2 c)) = A at h ⊢
  rw [tile_value i b hi A c t q l _ h]
  unfold group
  generalize signed X (docW B b l ⟨4 * c.val + t.val, by omega⟩) q = S
  unfold off
  push_cast
  rfl

theorem three_value (q : Fin 256) (l : Fin 128) : ∃ a d f : ℤ,
    (three i (opQ (F := Ideal) X) X2).a (ix2 q l) = e a ∧ (three i (opQ (F := Ideal) X) X2).b (ix2 q l) = e d ∧ (three i (opQ (F := Ideal) X) X2).c (ix2 q l) = e f
    ∧ Num.Tri (fun x => ∑ p, Num.one (group X B b q l p) x) a d f := by
  have hT := tile_group X B b i hi X2 hX q l
  exact top_places i (fun c => product (opQ (F := Ideal) X) (operand (words i X2 c))) (group X B b q l) (ix2 q l) hT

theorem keysV_value (r : Fin 32) (s : Fin 8) (l : Fin 128) {m1 m2 m3 : ℤ}
    (h1 : ∀ p, m1 ≤ keyOf X B ⟨r.val * 8 + s.val, by omega⟩ b l p) (e1 : ∃ p, keyOf X B ⟨r.val * 8 + s.val, by omega⟩ b l p = m1)
    (h2 : ∀ p, m2 ≤ Num.rest (keyOf X B ⟨r.val * 8 + s.val, by omega⟩ b l) m1 p) (e2 : ∃ p, Num.rest (keyOf X B ⟨r.val * 8 + s.val, by omega⟩ b l) m1 p = m2)
    (h3 : ∀ p, m3 ≤ Num.rest (Num.rest (keyOf X B ⟨r.val * 8 + s.val, by omega⟩ b l) m1) m2 p) (e3 : ∃ p, Num.rest (Num.rest (keyOf X B ⟨r.val * 8 + s.val, by omega⟩ b l) m1) m2 p = m3) :
    keysV (F := Ideal) i (opQ (F := Ideal) X) (popV X) X2 (ix4 r (0 : Fin 1) s l) = pack m1 m2 m3 := by
  obtain ⟨a, d, f, ha, hd, hf, hT⟩ := three_value X B b i hi X2 hX ⟨r.val * 8 + s.val, by omega⟩ l
  obtain ⟨k1, k2, k3, p1, p2, p3, p4⟩ := Num.agree hT (32 * count X ⟨r.val * 8 + s.val, by omega⟩)
    (keyOf_apart X B ⟨r.val * 8 + s.val, by omega⟩ b l)
    (fun x hx => Finset.sum_congr rfl fun p _ => group_one X B b _ l p x hx)
    (fun p => (keyOf_bounds X B _ b l p).1) (first_three X B b _ l) h1 e1 h2 e2 h3 e3
  have hp : popV (F := Ideal) X (ix2 (⟨r.val * 8 + s.val, by omega⟩ : Fin 256) l) = e (32 * count X ⟨r.val * 8 + s.val, by omega⟩) := by
    rw [pop_value]
    unfold e
    congr 1
    push_cast
    ring
  unfold keysV
  generalize three i (opQ (F := Ideal) X) X2 = Z at ha hd hf ⊢
  generalize popV (F := Ideal) X = P at hp ⊢
  pointwise [k0_pay1060]
  rw [ha, hd, hf, hp]
  rw [code_value a _ m1 k1 p1 (by omega), code_value d _ m2 k2 (by omega) (by omega), gap_value a f _ m1 m3 k1 k3 (by omega) (by omega)]
  exact word_pack p1 p2 p3 p4

end

end Cert.KernelIdeal.Exact

end
-- ==== Proof.Chain.lean ====
module

public import proofs.«01_k».proof.Proof.Exact
public import Idealize.ShloMosaic.Lib.Pipeline.ValueKit.Geometry

@[expose] public section

set_option maxRecDepth 16384

noncomputable section

/-! The scan's run with its results named: the body's run at every grid point, chained through the operand and the query popcounts
    that the first grid point leaves in scratch buffers, down to the four arrays the kernel returns. -/

namespace Cert.KernelIdeal.Exact

open Cert.KernelIdeal Cert.KernelIdeal.Gen Cert.KernelIdeal.Body Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first grid point is the one that fills the scratch buffers. -/
theorem cond1_iff : ∀ t : Fin cfg0.N, k0_cond1 (grid0.coords t) = 1#1 ↔ t.val = 0 := by decide +kernel

theorem pick_held {α : Type} (t : Fin cfg0.N) (v a : α) (h : t.val ≠ 0 → a = v) : pick (grid0.coords t) v a = v := by
  unfold pick
  split
  · rfl
  · rename_i h'
    exact h fun h0 => h' ((cond1_iff t).mpr h0)

variable (m : (ℓ : Loc nD τ sig) → Buf (Elt F) ℓ) (ρ : Dev nD → PrngReg)

/-- The queries as the body finds them at every grid point. -/
def queries (c : Dev nD) : S256x768.Idx → Elt F .bf16 := iblk m c 0 ⟨0, by decide⟩

theorem iblk_queries (c : Dev nD) (t : Fin cfg0.N) : (iblk m c 0 t : S256x768.Idx → Elt F .bf16) = queries m c := rfl

/-- The documents' words at grid point `t` as the body finds them: the block where the array has it, zero past the array's end. -/
def bits (c : Dev nD) (t : Fin cfg0.N) : S24x4096.Idx → Elt F .i32 :=
  win0_1.fill (grid0.coords t) (fun _ => (0#32 : BitVec 32)) (iblk m c 1 t)

/-- What a core's scratch buffers hold before grid point `n`. -/
def Held (c : Dev nD) (n : Nat) : sProp 𝕄 :=
  iprop(((∃ X, ⌜n ≠ 0 → X = opQ (queries m c)⌝ ∗ owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, ⌜n ≠ 0 → X = popV (queries m c)⌝ ∗ owns (c : Thread nD τ) (Memref.whole cc0_scratch6) fullShare X) ∗ (∃ X, owns (c : Thread nD τ) (Memref.whole cc0_scratch7) fullShare X)) ∗ ∃ r, prngReg c r)

/-- The proof data: every buffer but the threshold's named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => bits m c t
    | ⟨2, _⟩ => keysV (grid0.coords t) (opQ (queries m c)) (popV (queries m c)) (bits m c t)
    | ⟨3, _⟩ => Dat.unnamed (cfg := cfg0) 3 t
    | ⟨4, _⟩ => wordsV (queries m c)
    | ⟨5, _⟩ => bitsV (queries m c)
    | ⟨6, _⟩ => wideV (queries m c)
  Φ n := Held m c n.val
  q _ := fullShare
  owed _ := 0

/-- The one window whose contents are not named: the threshold. -/
def fgt : Fin cfg0.W → Bool := fun | 0 => false | 1 => false | 2 => false | 3 => true | 4 => false | 5 => false | 6 => false | ⟨_ + 7, h⟩ => absurd h (Nat.not_lt.2 (Nat.le_add_left _ _))

theorem before_0 (c : Dev nD) (t : Fin cfg0.N) (d) : (dats m 0 c).before 0 t d = iblk m c 0 t :=
  before0_0_of m (dats m 0 c) rfl (fun _ => rfl) t d

theorem before_1 (c : Dev nD) (t : Fin cfg0.N) (d) :
    (dats m 0 c).before 1 t d = win0_1.fill (grid0.coords t) d (iblk m c 1 t) := by
  unfold Dat.before; rw [if_pos (fetch0_1 t)]; rfl

theorem fresh_4 : ∀ t : Fin cfg0.N, t.val ≠ 0 → cfg0.fresh 4 t.val = false := by decide +kernel
theorem fresh_5 : ∀ t : Fin cfg0.N, t.val ≠ 0 → cfg0.fresh 5 t.val = false := by decide +kernel
theorem fresh_6 : ∀ t : Fin cfg0.N, t.val ≠ 0 → cfg0.fresh 6 t.val = false := by decide +kernel

theorem before_4 (c : Dev nD) (t : Fin cfg0.N) (h : t.val ≠ 0) (d) : (dats m 0 c).before 4 t d = wordsV (queries m c) := by
  refine ((dats m 0 c).before_out_traj 4 rfl (fun _ _ => rfl) (fun _ _ _ _ => rfl) t.val t rfl d).trans ?_
  rw [fresh_4 t h]; rfl
theorem before_5 (c : Dev nD) (t : Fin cfg0.N) (h : t.val ≠ 0) (d) : (dats m 0 c).before 5 t d = bitsV (queries m c) := by
  refine ((dats m 0 c).before_out_traj 5 rfl (fun _ _ => rfl) (fun _ _ _ _ => rfl) t.val t rfl d).trans ?_
  rw [fresh_5 t h]; rfl
theorem before_6 (c : Dev nD) (t : Fin cfg0.N) (h : t.val ≠ 0) (d) : (dats m 0 c).before 6 t d = wideV (queries m c) := by
  refine ((dats m 0 c).before_out_traj 6 rfl (fun _ _ => rfl) (fun _ _ _ _ => rfl) t.val t rfl d).trans ?_
  rw [fresh_6 t h]; rfl

/-- A buffer left at the value it keeps is a buffer left as the loop asks. -/
theorem leave_kept (c : Dev nD) (w : Fin cfg0.W) (t : Fin cfg0.N)
    (hb : cfg0.idle w (cfg0.grid.coords t) = true → ∃ d, (dats m 0 c).before w t d = (dats m 0 c).after w t) :
    owns (c : Thread nD τ) ((cfg0.win w).stage (cfg0.slots t w)) fullShare ((dats m 0 c).after w t) ⊢ ((dats m 0 c).leaves w t : sProp 𝕄) := by
  refine BIBase.Entails.trans ?_ ((dats m 0 c).leaves_intro w t)
  unfold Dat.leavesExact
  cases hi : cfg0.idle w (cfg0.grid.coords t)
  · exact .rfl
  · cases (cfg0.win w).flush t
    · obtain ⟨d, hd⟩ := hb hi
      iintro H; iexists d; rw [hd]; iexact H
    · exact .rfl

theorem idle_4 (t : Fin cfg0.N) (h : (!(k0_cond1 (cfg0.grid.coords t) == 1#1)) = true) : t.val ≠ 0 := fun h0 => by
  have := (cond1_iff t).mpr h0
  rw [show k0_cond1 (cfg0.grid.coords t) = 1#1 from this] at h
  exact absurd h (by decide)

theorem sound_body (c : Dev nD) (t : Fin cfg0.N) :
    iprop((dats (F := F) m 0 c).Φ t.castSucc ∗ (dats m 0 c).owesAt () t.castSucc
      ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ X, owns (c : Thread nD τ) ((cfg0.win 3).stage (cfg0.slots t 3)) fullShare X) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)))
    ⊢ wp frame (wpE (defs₀ (F := F)) Variants.none c none) Set.univ (Run.bodyAt t) (fun _ => iprop((dats m 0 c).Φ t.succ ∗ (dats m 0 c).owesAt () t.succ
      ∗ owns (c : Thread nD τ) ((cfg0.win 0).stage (cfg0.slots t 0)) fullShare ((dats m 0 c).after 0 t) ∗ (∃ d, owns (c : Thread nD τ) ((cfg0.win 1).stage (cfg0.slots t 1)) fullShare (win0_1.fill (grid0.coords t) d (win0_1.cut (grid0.coords t) ((dats m 0 c).after 1 t)))) ∗ owns (c : Thread nD τ) ((cfg0.win 2).stage (cfg0.slots t 2)) fullShare ((dats m 0 c).after 2 t) ∗ (∃ X, owns (c : Thread nD τ) ((cfg0.win 3).stage (cfg0.slots t 3)) fullShare X) ∗ (dats m 0 c).leaves 4 t ∗ (dats m 0 c).leaves 5 t ∗ (dats m 0 c).leaves 6 t)) := by
  rw [show (dats (F := F) m 0 c).Φ t.succ = Held m c (t.val + 1) from rfl, show (dats (F := F) m 0 c).Φ t.castSucc = Held m c t.val from rfl,
    show (dats (F := F) m 0 c).owesAt () t.succ = (dats m 0 c).owesAt () t.castSucc from rfl]
  unfold Held Run.bodyAt
  have h1 : win0_1.cut (grid0.coords t) ((dats (F := F) m 0 c).after 1 t) = iblk m c 1 t := win0_1.cut_fill _ _ _
  rw [h1, show (dats (F := F) m 0 c).after 0 t = iblk m c 0 t from rfl,
    show (dats (F := F) m 0 c).after 2 t = keysV (grid0.coords t) (opQ (queries m c)) (popV (queries m c)) (bits m c t) from rfl]
  iintro ⟨⟨⟨⟨%X8, %h8, H8⟩, H9, H10, H11, H12, H13, ⟨%X14, %h14, H14⟩, H15⟩, Hg⟩, Ho, ⟨%d0, H1⟩, ⟨%d1, H2⟩, ⟨%d2, H3⟩, H4, ⟨%d4, H5⟩, ⟨%d5, H6⟩, ⟨%d6, H7⟩⟩
  rw [before_0 m c t d0, before_1 m c t d1]
  have key := fun K => body_exact c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (queries m c) (win0_1.fill (grid0.coords t) d1 (iblk m c 1 t)) ((dats m 0 c).before 4 t d4) ((dats m 0 c).before 5 t d5) ((dats m 0 c).before 6 t d6) X8 X14 K
  rw [pick_held t (opQ (queries m c)) X8 h8, pick_held t (popV (queries m c)) X14 h14,
    pick_held t (wordsV (queries m c)) _ (fun h => before_4 m c t h d4), pick_held t (bitsV (queries m c)) _ (fun h => before_5 m c t h d5),
    pick_held t (wideV (queries m c)) _ (fun h => before_6 m c t h d6), keysV_fill (grid0.coords t) _ _ d1 (fun _ => (0#32 : BitVec 32)) (iblk m c 1 t)] at key
  have l4 := leave_kept m c 4 t fun hi => ⟨d4, before_4 m c t (idle_4 t hi) d4⟩
  have l5 := leave_kept m c 5 t fun hi => ⟨d5, before_5 m c t (idle_4 t hi) d5⟩
  have l6 := leave_kept m c 6 t fun hi => ⟨d6, before_6 m c t (idle_4 t hi) d6⟩
  iapply (key _)
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  isplitl [H8 H9 H10 H11 H12 H13 H14 H15 Hg]
  · isplitl [H8 H9 H10 H11 H12 H13 H14 H15]
    · isplitl [H8]
      · iexists _; isplitr; · ipureintro; exact fun _ => rfl
        iexact H8
      isplitl [H9]; · iexact H9
      isplitl [H10]; · iexact H10
      isplitl [H11]; · iexact H11
      isplitl [H12]; · iexact H12
      isplitl [H13]; · iexact H13
      isplitl [H14]
      · iexists _; isplitr; · ipureintro; exact fun _ => rfl
        iexact H14
      iexact H15
    iexact Hg
  isplitl [Ho]; · iexact Ho
  isplitl [H1]; · iexact H1
  isplitl [H2]; · iexists d1; iexact H2
  isplitl [H3]; · iexact H3
  isplitl [H4]; · iexact H4
  isplitl [H5]; · iapply l4; iexact H5
  isplitl [H6]; · iapply l5; iexact H6
  iapply l6; iexact H7

theorem body_obligation (c : Dev nD) : BodyObligationLoose (dats (F := F) m 0 c) (defs₀ (F := F)) Variants.none () Set.univ fgt := fun t => by
  rw [bigSep_W0, bigSep_W0, Run.defs₀_row]
  exact triple_restated (sound_body m c t) rfl .rfl fun _ => .rfl

theorem enter (c : Dev nD) : Pipeline.ΦA spec0 c ⊢ (dats (F := F) m 0 c).Φ 0 := by
  rw [show (dats (F := F) m 0 c).Φ 0 = Held m c 0 from rfl]
  unfold Pipeline.ΦA Held
  rw [Run.scratch_eq]
  iintro ⟨⟨⟨%X8, H8⟩, H9, H10, H11, H12, H13, ⟨%X14, H14⟩, H15⟩, Hg⟩
  isplitl [H8 H9 H10 H11 H12 H13 H14 H15]
  · isplitl [H8]
    · iexists X8; isplitr; · ipureintro; exact fun h => absurd rfl h
      iexact H8
    isplitl [H9]; · iexact H9
    isplitl [H10]; · iexact H10
    isplitl [H11]; · iexact H11
    isplitl [H12]; · iexact H12
    isplitl [H13]; · iexact H13
    isplitl [H14]
    · iexists X14; isplitr; · ipureintro; exact fun h => absurd rfl h
      iexact H14
    iexact H15
  iexact Hg

theorem leave (c : Dev nD) : (dats (F := F) m 0 c).Φ (Fin.last cfg0.N) ⊢ Pipeline.ΦA spec0 c := by
  rw [show (dats (F := F) m 0 c).Φ (Fin.last cfg0.N) = Held m c cfg0.N from rfl]
  unfold Pipeline.ΦA Held
  rw [Run.scratch_eq]
  iintro ⟨⟨⟨%X8, %h8, H8⟩, H9, H10, H11, H12, H13, ⟨%X14, %h14, H14⟩, H15⟩, Hg⟩
  isplitl [H8 H9 H10 H11 H12 H13 H14 H15]
  · isplitl [H8]; · iexists X8; iexact H8
    isplitl [H9]; · iexact H9
    isplitl [H10]; · iexact H10
    isplitl [H11]; · iexact H11
    isplitl [H12]; · iexact H12
    isplitl [H13]; · iexact H13
    isplitl [H14]; · iexists X14; iexact H14
    iexact H15
  iexact Hg

/-- The point whose block holds the words at position `b` of the second axis. -/
def pt (b : Fin 118) : Fin cfg0.N := ⟨b.val, b.isLt⟩

/-- The array of packed words: block `b` of its second axis is what grid point `b` stores. -/
def keysG (c : Dev nD) : S32x118x8x128.Idx → Elt F .i32 := fun j =>
  keysV (grid0.coords (pt (j 1))) (opQ (queries m c)) (popV (queries m c)) (bits m c (pt (j 1))) (ValueIdx.ix4 (j 0) (0 : Fin 1) (j 2) (j 3))

theorem index_2 : ∀ t : Fin cfg0.N, (cfg0.win 2).index t (0 : Fin 4) = 0 ∧ (cfg0.win 2).index t (1 : Fin 4) = t.val ∧ (cfg0.win 2).index t (2 : Fin 4) = 0 ∧ (cfg0.win 2).index t (3 : Fin 4) = 0 := by decide +kernel

theorem arr_2 (c : Dev nD) : (dats (F := F) m 0 c).arrAt 2 cfg0.N = keysG m c := by
  refine (dats m 0 c).arrAt_eq_of_covers 2 _ (by decide +kernel) fun t hf y => ?_
  blk_simp
  obtain ⟨h0, h1, h2, h3⟩ := index_2 t
  have e : (win0_2.blk t).view.emb y = ValueIdx.ix4 (y 0) (⟨t.val, t.isLt⟩ : Fin 118) (y 2) (y 3) := by
    blk_ext [h0, h1, h2, h3]
  rw [e]
  show keysV (grid0.coords t) (opQ (queries m c)) (popV (queries m c)) (bits m c t) y
    = keysV (grid0.coords t) (opQ (queries m c)) (popV (queries m c)) (bits m c t) (ValueIdx.ix4 (y 0) (0 : Fin 1) (y 2) (y 3))
  congr 1
  blk_ext

theorem arr_4 (c : Dev nD) : (dats (F := F) m 0 c).arrAt 4 cfg0.N = wordsV (queries m c) := by
  refine (dats m 0 c).arrAt_eq_of_after_last 4 ⟨117, by decide⟩ (by decide +kernel) _ fun j => ?_
  rfl
theorem arr_5 (c : Dev nD) : (dats (F := F) m 0 c).arrAt 5 cfg0.N = bitsV (queries m c) := by
  refine (dats m 0 c).arrAt_eq_of_after_last 5 ⟨117, by decide⟩ (by decide +kernel) _ fun j => ?_
  rfl
theorem arr_6 (c : Dev nD) : (dats (F := F) m 0 c).arrAt 6 cfg0.N = wideV (queries m c) := by
  refine (dats m 0 c).arrAt_eq_of_after_last 6 ⟨117, by decide⟩ (by decide +kernel) _ fun j => ?_
  rfl

/-- The four arrays the kernel returns, the arguments unchanged. -/
theorem run : θ_run defs (onTc (τ := τ) (main (F := F))) ⟨m, fun _ => 0, ρ⟩ (fun r => ∀ c : Dev nD,
      r.2.mem ((c.tc : Thread nD τ).loc main_v2_0) = keysG m c
      ∧ r.2.mem ((c.tc : Thread nD τ).loc main_v2_2) = wordsV (queries m c)
      ∧ r.2.mem ((c.tc : Thread nD τ).loc main_v2_3) = bitsV (queries m c)
      ∧ r.2.mem ((c.tc : Thread nD τ).loc main_v2_4) = wideV (queries m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_frame_track_forget cfgs (dats m) 0 launch0 defs₀ Variants.none fgt m ρ main (body_obligation m) (fun c => (dats m 0 c).share_full fun _ => rfl) (fun _ _ => rfl)
    (V m) (hmain m Variants.none) (fun _ _ => rfl) (enter m) (leave m) _
    (fun r h c => ⟨((Dat.toRForget_arrAt_iff (dats m 0 c) (fgt := fgt) (w := 2) rfl cfg0.N _).mp ((h.1 c).1 2)).trans (arr_2 m c),
      ((Dat.toRForget_arrAt_iff (dats m 0 c) (fgt := fgt) (w := 4) rfl cfg0.N _).mp ((h.1 c).1 4)).trans (arr_4 m c),
      ((Dat.toRForget_arrAt_iff (dats m 0 c) (fgt := fgt) (w := 5) rfl cfg0.N _).mp ((h.1 c).1 5)).trans (arr_5 m c),
      ((Dat.toRForget_arrAt_iff (dats m 0 c) (fgt := fgt) (w := 6) rfl cfg0.N _).mp ((h.1 c).1 6)).trans (arr_6 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)

end Cert.KernelIdeal.Exact

end
-- ==== Proof.Entry.lean ====
module

public import proofs.«01_k».proof.Proof.Chain
public import Idealize.ShloMosaic.Lib.Pipeline.ValueKit.Point

@[expose] public section

set_option maxRecDepth 16384

noncomputable section

/-! The blocks the scan reads, off the arguments. -/

namespace Cert.KernelIdeal.Exact
open Cert.KernelIdeal Cert.KernelIdeal.Gen Cert.KernelIdeal.Body Cert.KernelIdeal.Scan
open Idealize.ShloMosaic Idealize.ShloMosaic.TcCoe Idealize.ShloMosaic.Tactic

variable (m : (ℓ : Loc nD τ sig) → Buf (Elt Ideal) ℓ) (c : Dev nD)

theorem V_v0 : (V m c main_v0 : S256x768.Idx → Elt Ideal .bf16) = shapeCast S256x768 (m ((c : Thread nD τ).loc main_arg0)) shapeCasts_S2x128x768_S256x768 := by
  entry_read
  rfl

theorem V_v1 : (V m c main_v1 : S24x480000.Idx → Elt Ideal .i32) = transpose S24x480000 [1, 0] (m ((c : Thread nD τ).loc main_arg1)) transposes_S480000x24_S24x480000_1_0 := by
  entry_read
  rfl

theorem index_0 : ∀ t : Fin cfg0.N, (cfg0.win 0).index t (0 : Fin 2) = 0 ∧ (cfg0.win 0).index t (1 : Fin 2) = 0 := by decide +kernel
theorem index_1 : ∀ t : Fin cfg0.N, (cfg0.win 1).index t (0 : Fin 2) = 0 ∧ (cfg0.win 1).index t (1 : Fin 2) = t.val := by decide +kernel
theorem coords_val : ∀ t : Fin cfg0.N, (grid0.coords t 0).val = t.val := by decide +kernel

theorem block_queries (t : Fin cfg0.N) :
    (iblk m c 0 t : S256x768.Idx → Elt Ideal .bf16) = shapeCast S256x768 (m ((c : Thread nD τ).loc main_arg0)) shapeCasts_S2x128x768_S256x768 := by
  rw [← V_v0]
  funext y
  blk_simp [iblk]
  obtain ⟨h0, h1⟩ := index_0 t
  refine congrArg (V m c main_v0) ?_
  blk_ext [h0, h1]

/-- The scan's queries are the first argument's, both batches in one array. -/
theorem queries_eq : queries m c = shapeCast S256x768 (m ((c : Thread nD τ).loc main_arg0)) shapeCasts_S2x128x768_S256x768 := block_queries m c _

/-- A document's words in a grid point's block are the second argument's. -/
theorem bits_apply (t : Fin cfg0.N) (w : Fin 24) (y : Fin 4096) (h : t.val * 4096 + y.val < 480000) :
    bits m c t (ix2 w y) = m ((c : Thread nD τ).loc main_arg1) (ix2 (⟨t.val * 4096 + y.val, h⟩ : Fin 480000) w) := by
  have hm : win0_1.moved (grid0.coords t) (ix2 w y : S24x4096.Idx) = true := moved_live _ _ (by
    rw [coords_val]
    show 4096 * t.val + y.val < 480000
    omega)
  obtain ⟨h0, h1⟩ := index_1 t
  unfold bits Pipeline.Window.fill
  rw [dif_pos hm]
  unfold iblk
  refine (congrArg (V m c main_v1) (?_ : _ = (ix2 w (⟨t.val * 4096 + y.val, h⟩ : Fin 480000) : S24x480000.Idx))).trans ?_
  · blk_ext [h0, h1]
  · rw [V_v1]
    pointwise

end Cert.KernelIdeal.Exact

end
-- ==== Proof.Match.lean ====
module

public import proofs.«01_k».proof.Proof.Keys
public import proofs.«01_k».proof.Proof.Entry
public import proofs.«01_k».proof.Defs

@[expose] public section

set_option maxRecDepth 16384

noncomputable section

/-! The kernel's four results are the reference's. -/

namespace Cert.Match
open Idealize.ShloMosaic Idealize.ShloMosaic.TcCoe Idealize.ShloMosaic.Tactic
open Idealize.SL.Sem
open Cert.KernelIdeal.Exact Cert.KernelIdeal.Scan
open Cert.ReferenceIdeal.Exact (packed packed_apply queriesR keysR pack keys_apply keyOf)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

section
variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
include h0

theorem queries_match : queries m c = queriesR m' c := by
  rw [queries_eq]
  unfold queriesR
  rw [h0]

include h1

theorem keys_match : (keysG m c : Cert.KernelIdeal.S32x118x8x128.Idx → BitVec 32) = Cert.ReferenceIdeal.Value.res_main_v51 m' c := by
  funext j
  rw [ValueIdx.eq_ix4 j]
  obtain ⟨m1, m2, m3, hk, a1, e1, a2, e2, a3, e3⟩ := keys_apply m' c (j 0) (j 1) (j 2) (j 3)
  refine Eq.trans ?_ hk.symm
  rw [← queries_match m m' c h0] at a1 e1 a2 e2 a3 e3
  refine keysV_value (queries m c) (m' ((c.tc : Thread Cert.ReferenceIdeal.nD Cert.ReferenceIdeal.τ).loc Cert.ReferenceIdeal.main_arg1)) (j 1)
    (Cert.KernelIdeal.grid0.coords (pt (j 1))) (coords_val (pt (j 1))) (bits m c (pt (j 1))) ?_ (j 0) (j 2) (j 3) a1 e1 a2 e2 a3 e3
  intro w y h
  rw [bits_apply m c (pt (j 1)) w y h, h1]
  rfl

end

theorem wordOf_far (X : FVec Ideal Cert.KernelIdeal.S256x768 .bf16) (q : Fin 256) (l : ℕ) (h : 24 ≤ l) : wordOf X q l = 0#32 := by
  unfold wordOf
  refine (Bits.bitWord_eq_zero_iff _ 32 (by norm_num)).2 fun k _ => ?_
  exact dif_neg (by omega)

theorem words_match (X : FVec Ideal Cert.KernelIdeal.S256x768 .bf16) :
    (wordsV (F := Ideal) X : Cert.KernelIdeal.S256x128.Idx → BitVec 32) = pad Cert.ReferenceIdeal.S256x128 ![0, 0] ![0, 104] ![0, 0] (packed X) (constantI Cert.ReferenceIdeal.S_ 32 0#32)
      Cert.ReferenceIdeal.Gen.pads_S256x24_S256x128_000_01040 Cert.ReferenceIdeal.Gen.h_S_ := by
  funext j
  rw [ValueIdx.eq_ix2 j]
  refine (words_query X (j 0) (j 1)).trans ?_
  generalize j 0 = q
  generalize j 1 = l
  pointwise
  split
  · rename_i h
    exact (packed_apply X q ⟨l.val, h⟩).symm
  · rename_i h
    exact wordOf_far X q l.val (not_lt.1 h)

theorem bits_match (X : FVec Ideal Cert.KernelIdeal.S256x768 .bf16) :
    (bitsV (F := Ideal) X : Cert.KernelIdeal.S256x24.Idx → BitVec 32) = packed X := by
  funext j
  rw [ValueIdx.eq_ix2 j]
  exact (bits_query X (j 0) (j 1)).trans (packed_apply X (j 0) (j 1)).symm

theorem wide_match (X : FVec Ideal Cert.KernelIdeal.S256x768 .bf16) :
    (wideV (F := Ideal) X : Cert.KernelIdeal.S256x768.Idx → EReal) = extf .f32 X Cert.ReferenceIdeal.Gen.bitsLt_bf16_f32 :=
  (wide_query X).trans rfl

theorem algebraic : Cert.algebraic_KernelIdeal_ReferenceIdeal (hKernelIdeal := Cert.KernelIdeal.Gen.facts) (hReferenceIdeal := Cert.ReferenceIdeal.Gen.facts) := by
  intro m g m' g' _ h
  refine ⟨fun c => keysG m c, fun c => wordsV (queries m c), fun c => bitsV (queries m c), fun c => wideV (queries m c), run m g, ?_⟩
  refine (θ_run _ _ _).mono (fun r hr c => ?_) (Cert.ReferenceIdeal.Value.run m' g')
  obtain ⟨r0, r1, r2, r3, r4, r5⟩ := hr c
  obtain ⟨h0, h1⟩ := h c
  have hq : queries m c = shapeCast _ (m' ((c.tc : Thread Cert.ReferenceIdeal.nD Cert.ReferenceIdeal.τ).loc Cert.ReferenceIdeal.main_arg0)) Cert.ReferenceIdeal.Gen.shapeCasts_S2x128x768_S256x768 := queries_match m m' c h0
  refine ⟨r0.trans (keys_match m m' c h0 h1).symm, r1.trans ?_, r2.trans ?_, r3.trans ?_, r4, r5⟩
  · show _ = wordsV (queries m c)
    rw [words_match, hq, id_eq, id_eq]
    unfold packed
    with_reducible rfl
  · show _ = bitsV (queries m c)
    rw [hq]
    exact (bits_match _).symm
  · show _ = wideV (queries m c)
    rw [hq]
    exact (wide_match _).symm

theorem quiet : Cert.quiescent_ReferenceIdeal (hReferenceIdeal := Cert.ReferenceIdeal.Gen.facts) := by
  intro m g _
  refine (θ_run _ _ _).mono (fun r hr => ⟨fun c => (hr c).2.2.2.2, sem_eq_zero_of_no_sems (by decide) _⟩) (Cert.ReferenceIdeal.Value.run m g)

end Cert.Match

end
-- ==== Proof.lean ====
module

public import proofs.«01_k».proof.Defs
public import proofs.«01_k».proof.Proof.Frame
public import proofs.«01_k».proof.Proof.FrameBits
public import proofs.«01_k».proof.Proof.Match

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Run.quiescent m g, fun m g _ => Cert.KernelIdeal.Run.quiescent m g, Cert.Match.quiet, trivial, Cert.Match.algebraic⟩

end Cert.Proof

end
